-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_clamped_nearby [hPre_clamped_nearby : Cert.Pre_clamped_nearby.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_clamped_nearby.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_clamped_nearby [hPre_clamped_nearby : Cert.Pre_clamped_nearby.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_clamped_nearby.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_clamped_nearby [hKernel2Ideal : Cert.Kernel2Ideal.Facts] [hPre_clamped_nearby : Cert.Pre_clamped_nearby.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_clamped_nearby m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_clamped_nearby [hReference2Ideal : Cert.Reference2Ideal.Facts] [hPre_clamped_nearby : Cert.Pre_clamped_nearby.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_clamped_nearby m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_clamped_nearby [hKernel2Ideal : Cert.Kernel2Ideal.Facts] [hReference2Ideal : Cert.Reference2Ideal.Facts] [hPre_clamped_nearby : Cert.Pre_clamped_nearby.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_clamped_nearby m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v114)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v114) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_clamped_nearby : Cert.Pre_clamped_nearby.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_clamped_nearby (hKernel2Ideal := hKernel2Ideal) (hPre_clamped_nearby := hPre_clamped_nearby)
    ∧ quiescent_Reference2Ideal (hReference2Ideal := hReference2Ideal)
    ∧ quiescent_Reference2Ideal_pre_clamped_nearby (hReference2Ideal := hReference2Ideal) (hPre_clamped_nearby := hPre_clamped_nearby)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_clamped_nearby (hKernel2Ideal := hKernel2Ideal) (hReference2Ideal := hReference2Ideal) (hPre_clamped_nearby := hPre_clamped_nearby)
-- ==== Pre_clamped_nearby.lean ====
abbrev S1x21x64x64 : Shape := ⟨4, ![1, 21, 64, 64]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x64x1x1 : Shape := ⟨4, ![64, 64, 1, 1]⟩
abbrev S1x1x64x64 : Shape := ⟨4, ![1, 1, 64, 64]⟩
abbrev S64x64x64x64 : Shape := ⟨4, ![64, 64, 64, 64]⟩

class Facts : Prop where
  bcast_S_S1x21x64x64 : S_.BroadcastsInDim S1x21x64x64 (![] : Fin 0 → Fin S1x21x64x64.rank)
  reducesTo_S1x21x64x64_S_d0_1_2_3 : S1x21x64x64.ReducesTo [0, 1, 2, 3] S_
  h_S_ : 0 < S_.numel
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S64x64_S64x64x1x1_0_1 : S64x64.BroadcastsInDim S64x64x1x1 (![0, 1] : Fin 2 → Fin S64x64x1x1.rank)
  bcast_S64x64_S1x1x64x64_2_3 : S64x64.BroadcastsInDim S1x1x64x64 (![2, 3] : Fin 2 → Fin S1x1x64x64.rank)
  bcast_S_S64x64x1x1 : S_.BroadcastsInDim S64x64x1x1 (![] : Fin 0 → Fin S64x64x1x1.rank)
  bcast_S_S1x1x64x64 : S_.BroadcastsInDim S1x1x64x64 (![] : Fin 0 → Fin S1x1x64x64.rank)
  bcast_S64x64x1x1_S64x64x64x64_0_1_2_3 : S64x64x1x1.BroadcastsInDim S64x64x64x64 (![0, 1, 2, 3] : Fin 4 → Fin S64x64x64x64.rank)
  bcast_S1x1x64x64_S64x64x64x64_0_1_2_3 : S1x1x64x64.BroadcastsInDim S64x64x64x64 (![0, 1, 2, 3] : Fin 4 → Fin S64x64x64x64.rank)
  bcast_S_S64x64 : S_.BroadcastsInDim S64x64 (![] : Fin 0 → Fin S64x64.rank)
  bcast_S_S64x64x64x64 : S_.BroadcastsInDim S64x64x64x64 (![] : Fin 0 → Fin S64x64x64x64.rank)
  reducesTo_S64x64x64x64_S_d0_1_2_3 : S64x64x64x64.ReducesTo [0, 1, 2, 3] S_

variable [Facts]

def fn_part3 {F : FTy → Type} [FloatOps F] (main_v3 : IVec S_ 1) (main_v60 : IVec S64x64x64x64 1) (main_c_8 : IVec S_ 1) : IVec S_ 1 :=
  let main_v61 : IVec S_ 1 := (fun x v => Host.reduce IntOp.andi x v reducesTo_S64x64x64x64_S_d0_1_2_3 h_S_) main_v60 main_c_8
  let main_v62 : IVec S_ 1 := andi main_v3 main_v61
  main_v62

def fn_part2 {F : FTy → Type} [FloatOps F] (main_arg1 : FVec F S64 .f32) (main_arg2 : FVec F S64 .f32) (main_v3 : IVec S_ 1) (main_v35 : IVec S64x64x64x64 1) (main_v38 : FVec F S64x1 .f32) (main_v39 : FVec F S1x64 .f32) : IVec S_ 1 :=
  let main_v40 : FVec F S1x64 .f32 := broadcastInDim S1x64 ![1] bcast_S64_S1x64_1 main_arg1
  let main_v41 : FVec F S1x64 .f32 := mulf main_v39 main_v40
  let main_v42 : FVec F S64x64 .f32 := broadcastInDim S64x64 ![0, 1] bcast_S64x1_S64x64_0_1 main_v38
  let main_v43 : FVec F S64x64 .f32 := broadcastInDim S64x64 ![0, 1] bcast_S1x64_S64x64_0_1 main_v41
  let main_v44 : FVec F S64x64 .f32 := addf main_v42 main_v43
  let main_v45 : FVec F S64x1 .f32 := broadcastInDim S64x1 ![0] bcast_S64_S64x1_0 main_arg2
  let main_v46 : FVec F S1x64 .f32 := broadcastInDim S1x64 ![1] bcast_S64_S1x64_1 main_arg2
  let main_v47 : FVec F S64x64 .f32 := broadcastInDim S64x64 ![0, 1] bcast_S64x1_S64x64_0_1 main_v45
  let main_v48 : FVec F S64x64 .f32 := broadcastInDim S64x64 ![0, 1] bcast_S1x64_S64x64_0_1 main_v46
  let main_v49 : FVec F S64x64 .f32 := mulf main_v47 main_v48
  let main_cst_6 : FVec F S_ .f32 := constant S_ .f32 0x40000000#32
  let main_v50 : FVec F S64x64 .f32 := broadcastInDim S64x64 ![] bcast_S_S64x64 main_cst_6
  let main_v51 : FVec F S64x64 .f32 := mulf main_v50 main_v49
  let main_v52 : FVec F S64x64 .f32 := subf main_v44 main_v51
  let main_v53 : FVec F S64x64x1x1 .f32 := broadcastInDim S64x64x1x1 ![0, 1] bcast_S64x64_S64x64x1x1_0_1 main_v52
  let main_v54 : FVec F S1x1x64x64 .f32 := broadcastInDim S1x1x64x64 ![2, 3] bcast_S64x64_S1x1x64x64_2_3 main_v52
  let main_v55 : FVec F S64x64x64x64 .f32 := broadcastInDim S64x64x64x64 ![0, 1, 2, 3] bcast_S64x64x1x1_S64x64x64x64_0_1_2_3 main_v53
  let main_v56 : FVec F S64x64x64x64 .f32 := broadcastInDim S64x64x64x64 ![0, 1, 2, 3] bcast_S1x1x64x64_S64x64x64x64_0_1_2_3 main_v54
  let main_v57 : FVec F S64x64x64x64 .f32 := addf main_v55 main_v56
  let main_cst_7 : FVec F S_ .f32 := constant S_ .f32 0x00000000#32
  let main_v58 : FVec F S64x64x64x64 .f32 := broadcastInDim S64x64x64x64 ![] bcast_S_S64x64x64x64 main_cst_7
  let main_v59 : IVec S64x64x64x64 1 := cmpf .oge main_v57 main_v58
  let main_v60 : IVec S64x64x64x64 1 := ori main_v35 main_v59
  let main_c_8 : IVec S_ 1 := constantI S_ 1 1#1
  fn_part3 (F := F) main_v3 main_v60 main_c_8

def fn_part1 {F : FTy → Type} [FloatOps F] (main_arg1 : FVec F S64 .f32) (main_arg2 : FVec F S64 .f32) (main_v3 : IVec S_ 1) (main_v11 : IVec S64x64x1x1 32) (main_v12 : IVec S1x1x64x64 32) (main_v19 : IVec S64x64x64x64 1) : IVec S_ 1 :=
  let main_c_2 : IVec S_ 32 := constantI S_ 32 6#32
  let main_v20 : IVec S64x64x1x1 32 := broadcastInDim S64x64x1x1 ![] bcast_S_S64x64x1x1 main_c_2
  let main_v21 : IVec S64x64x1x1 1 := cmpi .sle main_v11 main_v20
  let main_c_3 : IVec S_ 32 := constantI S_ 32 1#32
  let main_v22 : IVec S1x1x64x64 32 := broadcastInDim S1x1x64x64 ![] bcast_S_S1x1x64x64 main_c_3
  let main_v23 : IVec S1x1x64x64 1 := cmpi .sle main_v12 main_v22
  let main_v24 : IVec S64x64x64x64 1 := broadcastInDim S64x64x64x64 ![0, 1, 2, 3] bcast_S64x64x1x1_S64x64x64x64_0_1_2_3 main_v21
  let main_v25 : IVec S64x64x64x64 1 := broadcastInDim S64x64x64x64 ![0, 1, 2, 3] bcast_S1x1x64x64_S64x64x64x64_0_1_2_3 main_v23
  let main_v26 : IVec S64x64x64x64 1 := andi main_v24 main_v25
  let main_v27 : IVec S64x64x64x64 1 := ori main_v19 main_v26
  let main_c_4 : IVec S_ 32 := constantI S_ 32 1#32
  let main_v28 : IVec S64x64x1x1 32 := broadcastInDim S64x64x1x1 ![] bcast_S_S64x64x1x1 main_c_4
  let main_v29 : IVec S64x64x1x1 1 := cmpi .sle main_v11 main_v28
  let main_c_5 : IVec S_ 32 := constantI S_ 32 6#32
  let main_v30 : IVec S1x1x64x64 32 := broadcastInDim S1x1x64x64 ![] bcast_S_S1x1x64x64 main_c_5
  let main_v31 : IVec S1x1x64x64 1 := cmpi .sle main_v12 main_v30
  let main_v32 : IVec S64x64x64x64 1 := broadcastInDim S64x64x64x64 ![0, 1, 2, 3] bcast_S64x64x1x1_S64x64x64x64_0_1_2_3 main_v29
  let main_v33 : IVec S64x64x64x64 1 := broadcastInDim S64x64x64x64 ![0, 1, 2, 3] bcast_S1x1x64x64_S64x64x64x64_0_1_2_3 main_v31
  let main_v34 : IVec S64x64x64x64 1 := andi main_v32 main_v33
  let main_v35 : IVec S64x64x64x64 1 := ori main_v27 main_v34
  let main_v36 : FVec F S64x1 .f32 := broadcastInDim S64x1 ![0] bcast_S64_S64x1_0 main_arg1
  let main_v37 : FVec F S64x1 .f32 := broadcastInDim S64x1 ![0] bcast_S64_S64x1_0 main_arg1
  let main_v38 : FVec F S64x1 .f32 := mulf main_v36 main_v37
  let main_v39 : FVec F S1x64 .f32 := broadcastInDim S1x64 ![1] bcast_S64_S1x64_1 main_arg1
  fn_part2 (F := F) main_arg1 main_arg2 main_v3 main_v35 main_v38 main_v39

def fn {F : FTy → Type} [FloatOps F] (main_arg0 : FVec F S1x21x64x64 .f32) (main_arg1 : FVec F S64 .f32) (main_arg2 : FVec F S64 .f32) : IVec S_ 1 :=
  let main_v0 : FVec F S1x21x64x64 .f32 := Host.absf main_arg0
  let main_cst : FVec F S_ .f32 := constant S_ .f32 0x7F800000#32
  let main_v1 : FVec F S1x21x64x64 .f32 := broadcastInDim S1x21x64x64 ![] bcast_S_S1x21x64x64 main_cst
  let main_v2 : IVec S1x21x64x64 1 := cmpf .olt main_v0 main_v1
  let main_c : IVec S_ 1 := constantI S_ 1 1#1
  let main_v3 : IVec S_ 1 := (fun x v => Host.reduce IntOp.andi x v reducesTo_S1x21x64x64_S_d0_1_2_3 h_S_) main_v2 main_c
  let main_v4 : IVec S64 32 := iotaInDim S64 32 0
  let main_v5 : IVec S64x1 32 := broadcastInDim S64x1 ![0] bcast_S64_S64x1_0 main_v4
  let main_v6 : IVec S1x64 32 := broadcastInDim S1x64 ![1] bcast_S64_S1x64_1 main_v4
  let main_v7 : IVec S64x64 32 := broadcastInDim S64x64 ![0, 1] bcast_S64x1_S64x64_0_1 main_v5
  let main_v8 : IVec S64x64 32 := broadcastInDim S64x64 ![0, 1] bcast_S1x64_S64x64_0_1 main_v6
  let main_v9 : IVec S64x64 32 := subi main_v7 main_v8
  let main_v10 : IVec S64x64 32 := absi main_v9
  let main_v11 : IVec S64x64x1x1 32 := broadcastInDim S64x64x1x1 ![0, 1] bcast_S64x64_S64x64x1x1_0_1 main_v10
  let main_v12 : IVec S1x1x64x64 32 := broadcastInDim S1x1x64x64 ![2, 3] bcast_S64x64_S1x1x64x64_2_3 main_v10
  let main_c_0 : IVec S_ 32 := constantI S_ 32 5#32
  let main_v13 : IVec S64x64x1x1 32 := broadcastInDim S64x64x1x1 ![] bcast_S_S64x64x1x1 main_c_0
  let main_v14 : IVec S64x64x1x1 1 := cmpi .sle main_v11 main_v13
  let main_c_1 : IVec S_ 32 := constantI S_ 32 5#32
  let main_v15 : IVec S1x1x64x64 32 := broadcastInDim S1x1x64x64 ![] bcast_S_S1x1x64x64 main_c_1
  let main_v16 : IVec S1x1x64x64 1 := cmpi .sle main_v12 main_v15
  let main_v17 : IVec S64x64x64x64 1 := broadcastInDim S64x64x64x64 ![0, 1, 2, 3] bcast_S64x64x1x1_S64x64x64x64_0_1_2_3 main_v14
  let main_v18 : IVec S64x64x64x64 1 := broadcastInDim S64x64x64x64 ![0, 1, 2, 3] bcast_S1x1x64x64_S64x64x64x64_0_1_2_3 main_v16
  let main_v19 : IVec S64x64x64x64 1 := andi main_v17 main_v18
  fn_part1 (F := F) main_arg1 main_arg2 main_v3 main_v11 main_v12 main_v19
-- ==== Kernel.lean ====
abbrev S1x21x64x64 : Shape := ⟨4, ![1, 21, 64, 64]⟩
abbrev S1x3x64x64 : Shape := ⟨4, ![1, 3, 64, 64]⟩
abbrev S133 : Shape := ⟨1, ![133]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S133x1 : Shape := ⟨2, ![133, 1]⟩
abbrev S133x64 : Shape := ⟨2, ![133, 64]⟩
abbrev S133x64x1 : Shape := ⟨3, ![133, 64, 1]⟩
abbrev S133x1x64 : Shape := ⟨3, ![133, 1, 64]⟩
abbrev S133x64x64 : Shape := ⟨3, ![133, 64, 64]⟩
abbrev S32x128 : Shape := ⟨2, ![32, 128]⟩
abbrev S64x128 : Shape := ⟨2, ![64, 128]⟩
abbrev S128x128 : Shape := ⟨2, ![128, 128]⟩
abbrev S32x32 : Shape := ⟨2, ![32, 32]⟩
abbrev S32x64 : Shape := ⟨2, ![32, 64]⟩
abbrev S133x32x128 : Shape := ⟨3, ![133, 32, 128]⟩
abbrev S21x32x128 : Shape := ⟨3, ![21, 32, 128]⟩
abbrev S7x32x128 : Shape := ⟨3, ![7, 32, 128]⟩
abbrev S26x7x38x128 : Shape := ⟨4, ![26, 7, 38, 128]⟩
abbrev S224x128 : Shape := ⟨2, ![224, 128]⟩
abbrev S7x64x128 : Shape := ⟨3, ![7, 64, 128]⟩
abbrev S1x64x128 : Shape := ⟨3, ![1, 64, 128]⟩
abbrev S1x32x128 : Shape := ⟨3, ![1, 32, 128]⟩
abbrev S7x3x128 : Shape := ⟨3, ![7, 3, 128]⟩
abbrev S1x7x3x128 : Shape := ⟨4, ![1, 7, 3, 128]⟩
abbrev S1x7x32x128 : Shape := ⟨4, ![1, 7, 32, 128]⟩

abbrev nBuf : Space → Nat
  | .hbm => 166
  | .vmem => 9
  | .smem => 0
  | _ => 0

abbrev hbmTy0_0 (i : Nat) : BufTy := match i % 128 with
  | 0 => ⟨S1x21x64x64, .f32⟩
  | 1 => ⟨S1x3x64x64, .f32⟩
  | 2 => ⟨S133, .i32⟩
  | 3 => ⟨S133, .i32⟩
  | 4 => ⟨S64, .i32⟩
  | 5 => ⟨S64x1, .i32⟩
  | 6 => ⟨S1x64, .i32⟩
  | 7 => ⟨S64x1, .f32⟩
  | 8 => ⟨S_, .f32⟩
  | 9 => ⟨S64x1, .f32⟩
  | 10 => ⟨S64x1, .f32⟩
  | 11 => ⟨S1x64, .f32⟩
  | 12 => ⟨S_, .f32⟩
  | 13 => ⟨S1x64, .f32⟩
  | 14 => ⟨S1x64, .f32⟩
  | 15 => ⟨S64x1, .bf16⟩
  | 16 => ⟨S64x1, .f32⟩
  | 17 => ⟨S1x64, .bf16⟩
  | 18 => ⟨S1x64, .f32⟩
  | 19 => ⟨S64x1, .f32⟩
  | 20 => ⟨S1x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S_, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S64x64, .f32⟩
  | 35 => ⟨S1x64, .i32⟩
  | 36 => ⟨S133x1, .i32⟩
  | 37 => ⟨S133x64, .i32⟩
  | 38 => ⟨S133x64, .i32⟩
  | 39 => ⟨S133x64, .i32⟩
  | 40 => ⟨S_, .i32⟩
  | 41 => ⟨S133x64, .i32⟩
  | 42 => ⟨S133x64, .i1⟩
  | 43 => ⟨S_, .i32⟩
  | 44 => ⟨S133x64, .i32⟩
  | 45 => ⟨S133x64, .i1⟩
  | 46 => ⟨S133x64, .i1⟩
  | 47 => ⟨S1x64, .i32⟩
  | 48 => ⟨S1x64, .f32⟩
  | 49 => ⟨S_, .f32⟩
  | 50 => ⟨S1x64, .f32⟩
  | 51 => ⟨S1x64, .f32⟩
  | 52 => ⟨S133x64, .f32⟩
  | 53 => ⟨S_, .f32⟩
  | 54 => ⟨S133x64, .f32⟩
  | 55 => ⟨S133x64, .f32⟩
  | 56 => ⟨S1x64, .bf16⟩
  | 57 => ⟨S1x64, .f32⟩
  | 58 => ⟨S133x64, .bf16⟩
  | 59 => ⟨S133x64, .f32⟩
  | 60 => ⟨S1x64, .f32⟩
  | 61 => ⟨S133x64, .f32⟩
  | 62 => ⟨S133x64, .f32⟩
  | 63 => ⟨S133x64, .f32⟩
  | 64 => ⟨S133x64, .f32⟩
  | 65 => ⟨S133x64, .f32⟩
  | 66 => ⟨S_, .f32⟩
  | 67 => ⟨S133x64, .f32⟩
  | 68 => ⟨S133x64, .f32⟩
  | 69 => ⟨S133x64, .f32⟩
  | 70 => ⟨S_, .f32⟩
  | 71 => ⟨S_, .f32⟩
  | 72 => ⟨S133x64, .f32⟩
  | 73 => ⟨S133x64, .f32⟩
  | 74 => ⟨S1x64, .i32⟩
  | 75 => ⟨S133x1, .i32⟩
  | 76 => ⟨S133x64, .i32⟩
  | 77 => ⟨S133x64, .i32⟩
  | 78 => ⟨S133x64, .i32⟩
  | 79 => ⟨S_, .i32⟩
  | 80 => ⟨S133x64, .i32⟩
  | 81 => ⟨S133x64, .i1⟩
  | 82 => ⟨S_, .i32⟩
  | 83 => ⟨S133x64, .i32⟩
  | 84 => ⟨S133x64, .i1⟩
  | 85 => ⟨S133x64, .i1⟩
  | 86 => ⟨S1x64, .i32⟩
  | 87 => ⟨S1x64, .f32⟩
  | 88 => ⟨S_, .f32⟩
  | 89 => ⟨S1x64, .f32⟩
  | 90 => ⟨S1x64, .f32⟩
  | 91 => ⟨S133x64, .f32⟩
  | 92 => ⟨S_, .f32⟩
  | 93 => ⟨S133x64, .f32⟩
  | 94 => ⟨S133x64, .f32⟩
  | 95 => ⟨S1x64, .bf16⟩
  | 96 => ⟨S1x64, .f32⟩
  | 97 => ⟨S133x64, .bf16⟩
  | 98 => ⟨S133x64, .f32⟩
  | 99 => ⟨S1x64, .f32⟩
  | 100 => ⟨S133x64, .f32⟩
  | 101 => ⟨S133x64, .f32⟩
  | 102 => ⟨S133x64, .f32⟩
  | 103 => ⟨S133x64, .f32⟩
  | 104 => ⟨S133x64, .f32⟩
  | 105 => ⟨S_, .f32⟩
  | 106 => ⟨S133x64, .f32⟩
  | 107 => ⟨S133x64, .f32⟩
  | 108 => ⟨S133x64, .f32⟩
  | 109 => ⟨S_, .f32⟩
  | 110 => ⟨S_, .f32⟩
  | 111 => ⟨S133x64, .f32⟩
  | 112 => ⟨S133x64, .f32⟩
  | 113 => ⟨S133x64x1, .f32⟩
  | 114 => ⟨S133x1x64, .f32⟩
  | 115 => ⟨S133x64x64, .f32⟩
  | 116 => ⟨S133x64x64, .f32⟩
  | 117 => ⟨S133x64x64, .f32⟩
  | 118 => ⟨S_, .f32⟩
  | 119 => ⟨S133x64x64, .f32⟩
  | 120 => ⟨S133x64x64, .i1⟩
  | 121 => ⟨S_, .f32⟩
  | 122 => ⟨S133x64x64, .f32⟩
  | 123 => ⟨S133x64x64, .f32⟩
  | 124 => ⟨S133x64x64, .f32⟩
  | 125 => ⟨S_, .f32⟩
  | 126 => ⟨S133x64x64, .f32⟩
  | 127 => ⟨S133x64x64, .f32⟩
  | _ => ⟨S1x21x64x64, .f32⟩

abbrev hbmTy0_1 (i : Nat) : BufTy := match i % 128 with
  | 0 => ⟨S_, .f32⟩
  | 1 => ⟨S_, .f32⟩
  | 2 => ⟨S133x64x64, .f32⟩
  | 3 => ⟨S133x64x64, .f32⟩
  | 4 => ⟨S_, .f32⟩
  | 5 => ⟨S64, .f32⟩
  | 6 => ⟨S64x1, .f32⟩
  | 7 => ⟨S1x64, .f32⟩
  | 8 => ⟨S64x64, .f32⟩
  | 9 => ⟨S64x64, .f32⟩
  | 10 => ⟨S64x64, .f32⟩
  | 11 => ⟨S_, .f32⟩
  | 12 => ⟨S64x64, .f32⟩
  | 13 => ⟨S64x64, .f32⟩
  | 14 => ⟨S_, .f32⟩
  | 15 => ⟨S64x64, .f32⟩
  | 16 => ⟨S64x64, .f32⟩
  | 17 => ⟨S_, .f32⟩
  | 18 => ⟨S64x64, .f32⟩
  | 19 => ⟨S64x64, .f32⟩
  | 20 => ⟨S32x128, .f32⟩
  | 21 => ⟨S_, .f32⟩
  | 22 => ⟨S64x64, .f32⟩
  | 23 => ⟨S64x128, .f32⟩
  | 24 => ⟨S64x128, .f32⟩
  | 25 => ⟨S128x128, .f32⟩
  | 26 => ⟨S32x32, .f32⟩
  | 27 => ⟨S32x32, .f32⟩
  | 28 => ⟨S32x64, .f32⟩
  | 29 => ⟨S32x32, .f32⟩
  | 30 => ⟨S32x32, .f32⟩
  | 31 => ⟨S32x64, .f32⟩
  | 32 => ⟨S64x64, .f32⟩
  | 33 => ⟨S133x32x128, .f32⟩
  | 34 => ⟨S133x32x128, .bf16⟩
  | 35 => ⟨S21x32x128, .f32⟩
  | 36 => ⟨S21x32x128, .f32⟩
  | 37 => ⟨S1x21x64x64, .f32⟩
  | _ => ⟨S1x21x64x64, .f32⟩

abbrev hbmTy (i : Nat) : BufTy := match i / 128 with
  | 0 => hbmTy0_0 i
  | 1 => hbmTy0_1 i
  | _ => ⟨S1x21x64x64, .f32⟩

abbrev bufTy : (tb : Table) → Fin (tcTables nBuf tb) → BufTy
  | .hbm, ⟨i, _⟩ => hbmTy i
  | .local _ .vmem, ⟨0, _⟩ => ⟨S7x32x128, .f32⟩
  | .local _ .vmem, ⟨1, _⟩ => ⟨S7x32x128, .f32⟩
  | .local _ .vmem, ⟨2, _⟩ => ⟨S128x128, .f32⟩
  | .local _ .vmem, ⟨3, _⟩ => ⟨S64x64, .f32⟩
  | .local _ .vmem, ⟨4, _⟩ => ⟨S133x32x128, .bf16⟩
  | .local _ .vmem, ⟨5, _⟩ => ⟨S32x128, .f32⟩
  | .local _ .vmem, ⟨6, _⟩ => ⟨S7x32x128, .f32⟩
  | .local _ .vmem, ⟨7, _⟩ => ⟨S7x32x128, .f32⟩
  | .local _ .vmem, ⟨8, _⟩ => ⟨S26x7x38x128, .f32⟩
  | _, _ => ⟨S1x21x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_4 : Ref sig .tc := ⟨.hbm, 40, rfl⟩
abbrev main_v32 : Ref sig .tc := ⟨.hbm, 41, rfl⟩
abbrev main_v33 : Ref sig .tc := ⟨.hbm, 42, rfl⟩
abbrev main_c_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_call0_v0 : Ref sig .tc := ⟨.hbm, 71, rfl⟩
abbrev main_call0_v1 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_10 : Ref sig .tc := ⟨.hbm, 79, rfl⟩
abbrev main_v63 : Ref sig .tc := ⟨.hbm, 80, rfl⟩
abbrev main_v64 : Ref sig .tc := ⟨.hbm, 81, rfl⟩
abbrev main_c_11 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_12 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_14 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_15 : Ref sig .tc := ⟨.hbm, 109, rfl⟩
abbrev main_call1_v0 : Ref sig .tc := ⟨.hbm, 110, rfl⟩
abbrev main_call1_v1 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_16 : Ref sig .tc := ⟨.hbm, 118, rfl⟩
abbrev main_v94 : Ref sig .tc := ⟨.hbm, 119, rfl⟩
abbrev main_v95 : Ref sig .tc := ⟨.hbm, 120, rfl⟩
abbrev main_cst_17 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_18 : Ref sig .tc := ⟨.hbm, 125, rfl⟩
abbrev main_v99 : Ref sig .tc := ⟨.hbm, 126, rfl⟩
abbrev main_v100 : Ref sig .tc := ⟨.hbm, 127, rfl⟩
abbrev main_cst_19 : Ref sig .tc := ⟨.hbm, 128, rfl⟩
abbrev main_call2_v0 : Ref sig .tc := ⟨.hbm, 129, rfl⟩
abbrev main_call2_v1 : Ref sig .tc := ⟨.hbm, 130, rfl⟩
abbrev main_v101 : Ref sig .tc := ⟨.hbm, 131, rfl⟩
abbrev main_cst_20 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_21 : Ref sig .tc := ⟨.hbm, 139, rfl⟩
abbrev main_v108 : Ref sig .tc := ⟨.hbm, 140, rfl⟩
abbrev main_v109 : Ref sig .tc := ⟨.hbm, 141, rfl⟩
abbrev main_cst_22 : Ref sig .tc := ⟨.hbm, 142, rfl⟩
abbrev main_v110 : Ref sig .tc := ⟨.hbm, 143, rfl⟩
abbrev main_v111 : Ref sig .tc := ⟨.hbm, 144, rfl⟩
abbrev main_cst_23 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_24 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S7x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S133x32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S7x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x21x64x64 : Shape := ⟨4, ![1, 21, 64, 64]⟩
abbrev S1x3x64x64 : Shape := ⟨4, ![1, 3, 64, 64]⟩
abbrev S64 : Shape := ⟨1, ![64]⟩
abbrev S64x64 : Shape := ⟨2, ![64, 64]⟩
abbrev S4096 : Shape := ⟨1, ![4096]⟩
abbrev S4096x1 : Shape := ⟨2, ![4096, 1]⟩
abbrev S4096x2 : Shape := ⟨2, ![4096, 2]⟩
abbrev S_ : Shape := ⟨0, ![]⟩
abbrev S21x4096 : Shape := ⟨2, ![21, 4096]⟩
abbrev S4096x21 : Shape := ⟨2, ![4096, 21]⟩
abbrev S1x4096 : Shape := ⟨2, ![1, 4096]⟩
abbrev S4096x4096 : Shape := ⟨2, ![4096, 4096]⟩
abbrev S2x4096 : Shape := ⟨2, ![2, 4096]⟩

abbrev nBuf : Space → Nat
  | .hbm => 72
  | .vmem => 0
  | .smem => 0
  | _ => 0

abbrev bufTy : (tb : Table) → Fin (tcTables nBuf tb) → BufTy
  | .hbm, ⟨0, _⟩ => ⟨S1x21x64x64, .f32⟩
  | .hbm, ⟨1, _⟩ => ⟨S1x3x64x64, .f32⟩
  | .hbm, ⟨2, _⟩ => ⟨S64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S4096x2, .f32⟩
  | .hbm, ⟨11, _⟩ => ⟨S_, .f32⟩
  | .hbm, ⟨12, _⟩ => ⟨S4096x2, .f32⟩
  | .hbm, ⟨13, _⟩ => ⟨S4096x2, .f32⟩
  | .hbm, ⟨14, _⟩ => ⟨S21x4096, .f32⟩
  | .hbm, ⟨15, _⟩ => ⟨S4096x21, .f32⟩
  | .hbm, ⟨16, _⟩ => ⟨S4096x2, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S2x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x21, .f32⟩
  | .hbm, ⟨38, _⟩ => ⟨S_, .f32⟩
  | .hbm, ⟨39, _⟩ => ⟨S4096x1, .f32⟩
  | .hbm, ⟨40, _⟩ => ⟨S4096x2, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S1x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S2x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x21, .f32⟩
  | .hbm, ⟨69, _⟩ => ⟨S4096x21, .f32⟩
  | .hbm, ⟨70, _⟩ => ⟨S21x4096, .f32⟩
  | .hbm, ⟨71, _⟩ => ⟨S1x21x64x64, .f32⟩
  | _, _ => ⟨S1x21x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_6 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_7 : Ref sig .tc := ⟨.hbm, 54, rfl⟩
abbrev main_v44 : Ref sig .tc := ⟨.hbm, 55, rfl⟩
abbrev main_v45 : Ref sig .tc := ⟨.hbm, 56, rfl⟩
abbrev main_cst_8 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_9 : Ref sig .tc := ⟨.hbm, 62, rfl⟩
abbrev main_v50 : Ref sig .tc := ⟨.hbm, 63, rfl⟩
abbrev main_v51 : Ref sig .tc := ⟨.hbm, 64, rfl⟩
abbrev main_cst_10 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Kernel2.lean ====
abbrev S1x21x64x64 : Shape := ⟨4, ![1, 21, 64, 64]⟩
abbrev S64 : Shape := ⟨1, ![64]⟩
abbrev S133 : Shape := ⟨1, ![133]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S133x1 : Shape := ⟨2, ![133, 1]⟩
abbrev S133x64 : Shape := ⟨2, ![133, 64]⟩
abbrev S133x64x1 : Shape := ⟨3, ![133, 64, 1]⟩
abbrev S133x1x64 : Shape := ⟨3, ![133, 1, 64]⟩
abbrev S133x64x64 : Shape := ⟨3, ![133, 64, 64]⟩
abbrev S32x128 : Shape := ⟨2, ![32, 128]⟩
abbrev S64x128 : Shape := ⟨2, ![64, 128]⟩
abbrev S128x128 : Shape := ⟨2, ![128, 128]⟩
abbrev S32x32 : Shape := ⟨2, ![32, 32]⟩
abbrev S32x64 : Shape := ⟨2, ![32, 64]⟩
abbrev S133x32x128 : Shape := ⟨3, ![133, 32, 128]⟩
abbrev S21x32x128 : Shape := ⟨3, ![21, 32, 128]⟩
abbrev S7x32x128 : Shape := ⟨3, ![7, 32, 128]⟩
abbrev S26x7x38x128 : Shape := ⟨4, ![26, 7, 38, 128]⟩
abbrev S224x128 : Shape := ⟨2, ![224, 128]⟩
abbrev S7x64x128 : Shape := ⟨3, ![7, 64, 128]⟩
abbrev S1x64x128 : Shape := ⟨3, ![1, 64, 128]⟩
abbrev S1x32x128 : Shape := ⟨3, ![1, 32, 128]⟩
abbrev S7x3x128 : Shape := ⟨3, ![7, 3, 128]⟩
abbrev S1x7x3x128 : Shape := ⟨4, ![1, 7, 3, 128]⟩
abbrev S1x7x32x128 : Shape := ⟨4, ![1, 7, 32, 128]⟩

abbrev nBuf : Space → Nat
  | .hbm => 159
  | .vmem => 9
  | .smem => 0
  | _ => 0

abbrev hbmTy0_0 (i : Nat) : BufTy := match i % 128 with
  | 0 => ⟨S1x21x64x64, .f32⟩
  | 1 => ⟨S64, .f32⟩
  | 2 => ⟨S64, .f32⟩
  | 3 => ⟨S133, .i32⟩
  | 4 => ⟨S133, .i32⟩
  | 5 => ⟨S64, .i32⟩
  | 6 => ⟨S64x1, .f32⟩
  | 7 => ⟨S64x1, .f32⟩
  | 8 => ⟨S1x64, .f32⟩
  | 9 => ⟨S1x64, .f32⟩
  | 10 => ⟨S64x1, .f32⟩
  | 11 => ⟨S1x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S_, .f32⟩
  | 19 => ⟨S64x64, .f32⟩
  | 20 => ⟨S64x64, .f32⟩
  | 21 => ⟨S64x64, .f32⟩
  | 22 => ⟨S_, .f32⟩
  | 23 => ⟨S64x64, .f32⟩
  | 24 => ⟨S64x64, .f32⟩
  | 25 => ⟨S64x64, .f32⟩
  | 26 => ⟨S1x64, .i32⟩
  | 27 => ⟨S133x1, .i32⟩
  | 28 => ⟨S133x64, .i32⟩
  | 29 => ⟨S133x64, .i32⟩
  | 30 => ⟨S133x64, .i32⟩
  | 31 => ⟨S_, .i32⟩
  | 32 => ⟨S_, .i32⟩
  | 33 => ⟨S_, .i32⟩
  | 34 => ⟨S133x64, .i32⟩
  | 35 => ⟨S133x64, .i32⟩
  | 36 => ⟨S_, .i32⟩
  | 37 => ⟨S133x64, .i32⟩
  | 38 => ⟨S133x64, .i32⟩
  | 39 => ⟨S133x64x1, .i32⟩
  | 40 => ⟨S133x64, .f32⟩
  | 41 => ⟨S133x64x1, .i32⟩
  | 42 => ⟨S133x64, .f32⟩
  | 43 => ⟨S_, .i32⟩
  | 44 => ⟨S133x64, .i32⟩
  | 45 => ⟨S133x64, .i1⟩
  | 46 => ⟨S_, .i32⟩
  | 47 => ⟨S133x64, .i32⟩
  | 48 => ⟨S133x64, .i1⟩
  | 49 => ⟨S133x64, .i1⟩
  | 50 => ⟨S1x64, .f32⟩
  | 51 => ⟨S1x64, .f32⟩
  | 52 => ⟨S1x64, .f32⟩
  | 53 => ⟨S133x64, .f32⟩
  | 54 => ⟨S133x64, .f32⟩
  | 55 => ⟨S133x64, .f32⟩
  | 56 => ⟨S133x64, .f32⟩
  | 57 => ⟨S133x64, .f32⟩
  | 58 => ⟨S_, .f32⟩
  | 59 => ⟨S133x64, .f32⟩
  | 60 => ⟨S133x64, .f32⟩
  | 61 => ⟨S133x64, .f32⟩
  | 62 => ⟨S_, .f32⟩
  | 63 => ⟨S_, .f32⟩
  | 64 => ⟨S133x64, .f32⟩
  | 65 => ⟨S133x64, .f32⟩
  | 66 => ⟨S1x64, .i32⟩
  | 67 => ⟨S133x1, .i32⟩
  | 68 => ⟨S133x64, .i32⟩
  | 69 => ⟨S133x64, .i32⟩
  | 70 => ⟨S133x64, .i32⟩
  | 71 => ⟨S_, .i32⟩
  | 72 => ⟨S_, .i32⟩
  | 73 => ⟨S_, .i32⟩
  | 74 => ⟨S133x64, .i32⟩
  | 75 => ⟨S133x64, .i32⟩
  | 76 => ⟨S_, .i32⟩
  | 77 => ⟨S133x64, .i32⟩
  | 78 => ⟨S133x64, .i32⟩
  | 79 => ⟨S133x64x1, .i32⟩
  | 80 => ⟨S133x64, .f32⟩
  | 81 => ⟨S133x64x1, .i32⟩
  | 82 => ⟨S133x64, .f32⟩
  | 83 => ⟨S_, .i32⟩
  | 84 => ⟨S133x64, .i32⟩
  | 85 => ⟨S133x64, .i1⟩
  | 86 => ⟨S_, .i32⟩
  | 87 => ⟨S133x64, .i32⟩
  | 88 => ⟨S133x64, .i1⟩
  | 89 => ⟨S133x64, .i1⟩
  | 90 => ⟨S1x64, .f32⟩
  | 91 => ⟨S1x64, .f32⟩
  | 92 => ⟨S1x64, .f32⟩
  | 93 => ⟨S133x64, .f32⟩
  | 94 => ⟨S133x64, .f32⟩
  | 95 => ⟨S133x64, .f32⟩
  | 96 => ⟨S133x64, .f32⟩
  | 97 => ⟨S133x64, .f32⟩
  | 98 => ⟨S_, .f32⟩
  | 99 => ⟨S133x64, .f32⟩
  | 100 => ⟨S133x64, .f32⟩
  | 101 => ⟨S133x64, .f32⟩
  | 102 => ⟨S_, .f32⟩
  | 103 => ⟨S_, .f32⟩
  | 104 => ⟨S133x64, .f32⟩
  | 105 => ⟨S133x64, .f32⟩
  | 106 => ⟨S133x64x1, .f32⟩
  | 107 => ⟨S133x1x64, .f32⟩
  | 108 => ⟨S133x64x64, .f32⟩
  | 109 => ⟨S133x64x64, .f32⟩
  | 110 => ⟨S133x64x64, .f32⟩
  | 111 => ⟨S_, .f32⟩
  | 112 => ⟨S133x64x64, .f32⟩
  | 113 => ⟨S133x64x64, .i1⟩
  | 114 => ⟨S_, .f32⟩
  | 115 => ⟨S133x64x64, .f32⟩
  | 116 => ⟨S133x64x64, .f32⟩
  | 117 => ⟨S133x64x64, .f32⟩
  | 118 => ⟨S_, .f32⟩
  | 119 => ⟨S133x64x64, .f32⟩
  | 120 => ⟨S133x64x64, .f32⟩
  | 121 => ⟨S_, .f32⟩
  | 122 => ⟨S_, .f32⟩
  | 123 => ⟨S133x64x64, .f32⟩
  | 124 => ⟨S133x64x64, .f32⟩
  | 125 => ⟨S_, .f32⟩
  | 126 => ⟨S64, .f32⟩
  | 127 => ⟨S64x1, .f32⟩
  | _ => ⟨S1x21x64x64, .f32⟩

abbrev hbmTy0_1 (i : Nat) : BufTy := match i % 128 with
  | 0 => ⟨S1x64, .f32⟩
  | 1 => ⟨S64x64, .f32⟩
  | 2 => ⟨S64x64, .f32⟩
  | 3 => ⟨S64x64, .f32⟩
  | 4 => ⟨S_, .f32⟩
  | 5 => ⟨S64x64, .f32⟩
  | 6 => ⟨S64x64, .f32⟩
  | 7 => ⟨S_, .f32⟩
  | 8 => ⟨S64x64, .f32⟩
  | 9 => ⟨S64x64, .f32⟩
  | 10 => ⟨S_, .f32⟩
  | 11 => ⟨S64x64, .f32⟩
  | 12 => ⟨S64x64, .f32⟩
  | 13 => ⟨S32x128, .f32⟩
  | 14 => ⟨S_, .f32⟩
  | 15 => ⟨S64x64, .f32⟩
  | 16 => ⟨S64x128, .f32⟩
  | 17 => ⟨S64x128, .f32⟩
  | 18 => ⟨S128x128, .f32⟩
  | 19 => ⟨S32x32, .f32⟩
  | 20 => ⟨S32x32, .f32⟩
  | 21 => ⟨S32x64, .f32⟩
  | 22 => ⟨S32x32, .f32⟩
  | 23 => ⟨S32x32, .f32⟩
  | 24 => ⟨S32x64, .f32⟩
  | 25 => ⟨S64x64, .f32⟩
  | 26 => ⟨S133x32x128, .f32⟩
  | 27 => ⟨S133x32x128, .bf16⟩
  | 28 => ⟨S21x32x128, .f32⟩
  | 29 => ⟨S21x32x128, .f32⟩
  | 30 => ⟨S1x21x64x64, .f32⟩
  | _ => ⟨S1x21x64x64, .f32⟩

abbrev hbmTy (i : Nat) : BufTy := match i / 128 with
  | 0 => hbmTy0_0 i
  | 1 => hbmTy0_1 i
  | _ => ⟨S1x21x64x64, .f32⟩

abbrev bufTy : (tb : Table) → Fin (tcTables nBuf tb) → BufTy
  | .hbm, ⟨i, _⟩ => hbmTy i
  | .local _ .vmem, ⟨0, _⟩ => ⟨S7x32x128, .f32⟩
  | .local _ .vmem, ⟨1, _⟩ => ⟨S7x32x128, .f32⟩
  | .local _ .vmem, ⟨2, _⟩ => ⟨S128x128, .f32⟩
  | .local _ .vmem, ⟨3, _⟩ => ⟨S64x64, .f32⟩
  | .local _ .vmem, ⟨4, _⟩ => ⟨S133x32x128, .bf16⟩
  | .local _ .vmem, ⟨5, _⟩ => ⟨S32x128, .f32⟩
  | .local _ .vmem, ⟨6, _⟩ => ⟨S7x32x128, .f32⟩
  | .local _ .vmem, ⟨7, _⟩ => ⟨S7x32x128, .f32⟩
  | .local _ .vmem, ⟨8, _⟩ => ⟨S26x7x38x128, .f32⟩
  | _, _ => ⟨S1x21x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_call1_v0 : Ref sig .tc := ⟨.hbm, 63, rfl⟩
abbrev main_call1_v1 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_c_9 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_13 : Ref sig .tc := ⟨.hbm, 102, rfl⟩
abbrev main_call3_v0 : Ref sig .tc := ⟨.hbm, 103, rfl⟩
abbrev main_call3_v1 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_14 : Ref sig .tc := ⟨.hbm, 111, rfl⟩
abbrev main_v78 : Ref sig .tc := ⟨.hbm, 112, rfl⟩
abbrev main_v79 : Ref sig .tc := ⟨.hbm, 113, rfl⟩
abbrev main_cst_15 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_16 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_call4_v0 : Ref sig .tc := ⟨.hbm, 122, rfl⟩
abbrev main_call4_v1 : Ref sig .tc := ⟨.hbm, 123, rfl⟩
abbrev main_v85 : Ref sig .tc := ⟨.hbm, 124, rfl⟩
abbrev main_cst_18 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_19 : Ref sig .tc := ⟨.hbm, 132, rfl⟩
abbrev main_v92 : Ref sig .tc := ⟨.hbm, 133, rfl⟩
abbrev main_v93 : Ref sig .tc := ⟨.hbm, 134, rfl⟩
abbrev main_cst_20 : Ref sig .tc := ⟨.hbm, 135, rfl⟩
abbrev main_v94 : Ref sig .tc := ⟨.hbm, 136, rfl⟩
abbrev main_v95 : Ref sig .tc := ⟨.hbm, 137, rfl⟩
abbrev main_cst_21 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_22 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S7x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S133x32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S7x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S1x21x64x64 : Shape := ⟨4, ![1, 21, 64, 64]⟩
abbrev S64 : Shape := ⟨1, ![64]⟩
abbrev S64x64 : Shape := ⟨2, ![64, 64]⟩
abbrev S4096 : Shape := ⟨1, ![4096]⟩
abbrev S4096x1 : Shape := ⟨2, ![4096, 1]⟩
abbrev S4096x2 : Shape := ⟨2, ![4096, 2]⟩
abbrev S21x4096 : Shape := ⟨2, ![21, 4096]⟩
abbrev S4096x21 : Shape := ⟨2, ![4096, 21]⟩
abbrev S_ : Shape := ⟨0, ![]⟩
abbrev S1x4096 : Shape := ⟨2, ![1, 4096]⟩
abbrev S4096x4096 : Shape := ⟨2, ![4096, 4096]⟩
abbrev S2x4096 : Shape := ⟨2, ![2, 4096]⟩

abbrev nBuf : Space → Nat
  | .hbm => 75
  | .vmem => 0
  | .smem => 0
  | _ => 0

abbrev bufTy : (tb : Table) → Fin (tcTables nBuf tb) → BufTy
  | .hbm, ⟨0, _⟩ => ⟨S1x21x64x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S4096x2, .f32⟩
  | .hbm, ⟨10, _⟩ => ⟨S64x64, .f32⟩
  | .hbm, ⟨11, _⟩ => ⟨S64x64, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S4096x1, .f32⟩
  | .hbm, ⟨16, _⟩ => ⟨S4096x2, .f32⟩
  | .hbm, ⟨17, _⟩ => ⟨S21x4096, .f32⟩
  | .hbm, ⟨18, _⟩ => ⟨S4096x21, .f32⟩
  | .hbm, ⟨19, _⟩ => ⟨S4096x2, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S2x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x21, .f32⟩
  | .hbm, ⟨41, _⟩ => ⟨S_, .f32⟩
  | .hbm, ⟨42, _⟩ => ⟨S4096x1, .f32⟩
  | .hbm, ⟨43, _⟩ => ⟨S4096x2, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S2x4096, .f32⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x21, .f32⟩
  | .hbm, ⟨72, _⟩ => ⟨S4096x21, .f32⟩
  | .hbm, ⟨73, _⟩ => ⟨S21x4096, .f32⟩
  | .hbm, ⟨74, _⟩ => ⟨S1x21x64x64, .f32⟩
  | _, _ => ⟨S1x21x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Proof.Tables.lean ====
module

public import proofs.«01_k».proof.Proof.Gen.KernelIdeal.Frame
public import Idealize.ShloMosaic.Lib.Pipeline.ValueKit
public import Idealize.ShloMosaic.Lib.Pointwise
public import Idealize.ShloMosaic.Lib.StableHlo.RunRead

/-! The tables the program computes before the kernel starts. -/

@[expose] public section

set_option maxRecDepth 16384

noncomputable section

open Idealize.ShloMosaic Idealize.ShloMosaic.TcCoe Idealize.SL.Sem

namespace Cert.KernelIdeal.Tables
open Cert.KernelIdeal Cert.KernelIdeal.Gen

variable (m : (ℓ : Loc nD τ sig) → Buf (Elt Ideal) ℓ)

/-- The coordinates down a column, divided by the scale. -/
def colV : FVec Ideal S64x1 .f32 :=
  Host.divf (sitofp .f32 (broadcastInDim S64x1 ![0] bcast_S64_S64x1_0 (iotaInDim S64 32 0)))
    (broadcastInDim S64x1 ![] bcast_S_S64x1 (constant S_ .f32 0x40A00000#32))

/-- The coordinates along a row, divided by the scale. -/
def rowV : FVec Ideal S1x64 .f32 :=
  Host.divf (sitofp .f32 (broadcastInDim S1x64 ![1] bcast_S64_S1x64_1 (iotaInDim S64 32 0)))
    (broadcastInDim S1x64 ![] bcast_S_S1x64 (constant S_ .f32 0x40A00000#32))

/-- The one-dimensional Gaussian table. -/
def gbV : FVec Ideal S64x64 .f32 :=
  Host.exp (mulf (broadcastInDim S64x64 ![] bcast_S_S64x64 (constant S_ .f32 0xBF000000#32))
    (subf
      (addf (broadcastInDim S64x64 ![0, 1] bcast_S64x1_S64x64_0_1 (mulf colV colV))
        (broadcastInDim S64x64 ![0, 1] bcast_S1x64_S64x64_0_1 (mulf rowV rowV)))
      (mulf (broadcastInDim S64x64 ![] bcast_S_S64x64 (constant S_ .f32 0x40000000#32))
        (mulf
          (broadcastInDim S64x64 ![0, 1] bcast_S64x1_S64x64_0_1
            (extf .f32 (truncf .bf16 colV bitsLt_bf16_f32) bitsLt_bf16_f32))
          (broadcastInDim S64x64 ![0, 1] bcast_S1x64_S64x64_0_1
            (extf .f32 (truncf .bf16 rowV bitsLt_bf16_f32) bitsLt_bf16_f32))))))

/-- The neighbour's coordinate along one axis, for every offset of a list and every pixel. -/
def nbrV (d : IVec S133 32) : IVec S133x64 32 :=
  addi
    (broadcastInDim S133x64 ![0, 1] bcast_S1x64_S133x64_0_1
      (broadcastInDim S1x64 ![1] bcast_S64_S1x64_1 (iotaInDim S64 32 0)))
    (broadcastInDim S133x64 ![0, 1] bcast_S133x1_S133x64_0_1 (broadcastInDim S133x1 ![0] bcast_S133_S133x1_0 d))

/-- The neighbour's coordinate divided by the scale. -/
def nbrDivV (d : IVec S133 32) : FVec Ideal S133x64 .f32 :=
  Host.divf (sitofp .f32 (nbrV d)) (broadcastInDim S133x64 ![] bcast_S_S133x64 (constant S_ .f32 0x40A00000#32))

/-- The squared distance along one axis to the neighbour at every listed offset, infinite off the image. -/
def lineV (d : IVec S133 32) : FVec Ideal S133x64 .f32 :=
  select
    (andi (cmpi .sge (nbrV d) (broadcastInDim S133x64 ![] bcast_S_S133x64 (constantI S_ 32 0#32)))
      (cmpi .slt (nbrV d) (broadcastInDim S133x64 ![] bcast_S_S133x64 (constantI S_ 32 64#32))))
    (subf
      (addf (broadcastInDim S133x64 ![0, 1] bcast_S1x64_S133x64_0_1 (mulf rowV rowV)) (mulf (nbrDivV d) (nbrDivV d)))
      (mulf (broadcastInDim S133x64 ![] bcast_S_S133x64 (constant S_ .f32 0x40000000#32))
        (mulf
          (broadcastInDim S133x64 ![0, 1] bcast_S1x64_S133x64_0_1
            (extf .f32 (truncf .bf16 rowV bitsLt_bf16_f32) bitsLt_bf16_f32))
          (extf .f32 (truncf .bf16 (nbrDivV d) bitsLt_bf16_f32) bitsLt_bf16_f32))))
    (broadcastInDim S133x64 ![] bcast_S_S133x64 (constant S_ .f32 0x7F800000#32))

/-- The vertical offsets of the listed neighbours. -/
def dyV : IVec S133 32 := fun i => lit0 (S133.rowMajor i)

/-- The horizontal offsets of the listed neighbours. -/
def dxV : IVec S133 32 := fun i => lit1 (S133.rowMajor i)

/-- The squared distance to every listed neighbour, of the squared distances along the two axes. -/
def distOf (u v : FVec Ideal S133x64 .f32) : FVec Ideal S133x64x64 .f32 :=
  addf
    (broadcastInDim S133x64x64 ![0, 1, 2] bcast_S133x64x1_S133x64x64_0_1_2
      (broadcastInDim S133x64x1 ![0, 1] bcast_S133x64_S133x64x1_0_1 u))
    (broadcastInDim S133x64x64 ![0, 1, 2] bcast_S133x1x64_S133x64x64_0_1_2
      (broadcastInDim S133x1x64 ![0, 2] bcast_S133x64_S133x1x64_0_2 v))

/-- The correction of every listed neighbour's weight: what clamping a negative squared distance at zero changes. -/
def corrOf (s : FVec Ideal S133x64x64 .f32) : FVec Ideal S133x64x64 .f32 :=
  select (cmpf .olt s (broadcastInDim S133x64x64 ![] bcast_S_S133x64x64 (constant S_ .f32 0x00000000#32)))
    (subf (broadcastInDim S133x64x64 ![] bcast_S_S133x64x64 (constant S_ .f32 0x3F800000#32))
      (Host.exp (mulf (broadcastInDim S133x64x64 ![] bcast_S_S133x64x64 (constant S_ .f32 0xBF000000#32)) s)))
    (broadcastInDim S133x64x64 ![] bcast_S_S133x64x64 (constant S_ .f32 0x00000000#32))

/-- A correction table as the kernel takes it: two image rows to a packed row, in the narrow format. -/
def corrPackedOf (r : FVec Ideal S133x64x64 .f32) : FVec Ideal S133x32x128 .bf16 :=
  truncf .bf16 (shapeCast S133x32x128 r shapeCasts_S133x64x64_S133x32x128) bitsLt_bf16_f32

/-- The row sums of a table. -/
def sumOf (g : FVec Ideal S64x64 .f32) : FVec Ideal S64 .f32 :=
  Host.reduceAdd g (constant S_ .f32 0x00000000#32) reducesTo_S64x64_S64_d1 h_S_

/-- The reciprocal norm of every pixel, of a one-dimensional table and its corrections. -/
def invOf (g : FVec Ideal S64x64 .f32) (r : FVec Ideal S133x64x64 .f32) : FVec Ideal S64x64 .f32 :=
  Host.divf (broadcastInDim S64x64 ![] bcast_S_S64x64 (constant S_ .f32 0x3F800000#32))
    (addf
      (addf
        (mulf
          (broadcastInDim S64x64 ![0, 1] bcast_S64x1_S64x64_0_1 (broadcastInDim S64x1 ![0] bcast_S64_S64x1_0 (sumOf g)))
          (broadcastInDim S64x64 ![0, 1] bcast_S1x64_S64x64_0_1 (broadcastInDim S1x64 ![1] bcast_S64_S1x64_1 (sumOf g))))
        (Host.reduceAdd r (constant S_ .f32 0x00000000#32) reducesTo_S133x64x64_S64x64_d0 h_S_))
      (broadcastInDim S64x64 ![] bcast_S_S64x64 (constant S_ .f32 0x25800000#32)))

/-- The zero table. -/
def zeroTabV : FVec Ideal S64x64 .f32 := broadcastInDim S64x64 ![] bcast_S_S64x64 (constant S_ .f32 0x00000000#32)

/-- The block-diagonal table of the row pass. -/
def gb2Of (g : FVec Ideal S64x64 .f32) : FVec Ideal S128x128 .f32 :=
  concatenate S128x128 0
    [⟨S64x128, concatenate S64x128 1 [⟨S64x64, g⟩, ⟨S64x64, zeroTabV⟩] concatenates_S64x64_S64x64_S64x128_d1⟩,
     ⟨S64x128, concatenate S64x128 1 [⟨S64x64, zeroTabV⟩, ⟨S64x64, g⟩] concatenates_S64x64_S64x64_S64x128_d1⟩]
    concatenates_S64x128_S64x128_S128x128_d0

/-- The even/odd ordered table of the column pass. -/
def geoOf (g : FVec Ideal S64x64 .f32) : FVec Ideal S64x64 .f32 :=
  concatenate S64x64 0
    [⟨S32x64, concatenate S32x64 1 [⟨S32x32, Host.slice S32x32 ![0, 0] ![2, 2] g slicesBy_S64x64_S32x32_0s2_0s2⟩,
        ⟨S32x32, Host.slice S32x32 ![0, 1] ![2, 2] g slicesBy_S64x64_S32x32_0s2_1s2⟩]
        concatenates_S32x32_S32x32_S32x64_d1⟩,
     ⟨S32x64, concatenate S32x64 1 [⟨S32x32, Host.slice S32x32 ![1, 1] ![2, 2] g slicesBy_S64x64_S32x32_1s2_1s2⟩,
        ⟨S32x32, Host.slice S32x32 ![1, 0] ![2, 2] g slicesBy_S64x64_S32x32_1s2_0s2⟩]
        concatenates_S32x32_S32x32_S32x64_d1⟩]
    concatenates_S32x64_S32x64_S64x64_d0

/-- The squared distance to every listed neighbour. -/
def distV : FVec Ideal S133x64x64 .f32 := distOf (lineV dyV) (lineV dxV)

/-- The corrections of the weights. -/
def corrV : FVec Ideal S133x64x64 .f32 := corrOf distV

/-- The correction table as the kernel takes it. -/
def corrPackedV : FVec Ideal S133x32x128 .bf16 := corrPackedOf corrV

/-- The reciprocal norm of every pixel. -/
def invV : FVec Ideal S64x64 .f32 := invOf gbV corrV

/-- The row pass's table. -/
def gb2V : FVec Ideal S128x128 .f32 := gb2Of gbV

/-- The column pass's table. -/
def geoV : FVec Ideal S64x64 .f32 := geoOf gbV

set_option maxHeartbeats 4000000 in
/-- The kernel's first operand is the input, two image rows to a packed row. -/
theorem V_q (c : Dev nD) : V m c main_v128
    = shapeCast S21x32x128 (m ((c : Thread nD τ).loc main_arg0)) shapeCasts_S1x21x64x64_S21x32x128 := by
  unfold_abbrev_sides
  simp only [List.flatten_cons, List.flatten_nil, List.append_nil, List.cons_append, List.nil_append]
  after_reads_simp
  rfl

set_option maxHeartbeats 4000000 in
/-- The kernel's second operand is the block-diagonal table. -/
theorem V_gb2 (c : Dev nD) : V m c main_v118 = gb2V := by
  unfold_abbrev_sides
  simp only [List.flatten_cons, List.flatten_nil, List.append_nil, List.cons_append, List.nil_append]
  after_reads_simp
  rfl

set_option maxHeartbeats 4000000 in
/-- The kernel's third operand is the even/odd ordered table. -/
theorem V_geo (c : Dev nD) : V m c main_v125 = geoV := by
  unfold_abbrev_sides
  simp only [List.flatten_cons, List.flatten_nil, List.append_nil, List.cons_append, List.nil_append]
  after_reads_simp
  rfl

set_option maxHeartbeats 4000000 in
/-- The kernel's fourth operand is the correction table. -/
theorem V_corr (c : Dev nD) : V m c main_v127 = corrPackedV := by
  unfold_abbrev_sides
  simp only [List.flatten_cons, List.flatten_nil, List.append_nil, List.cons_append, List.nil_append]
  after_reads_simp
  rfl

set_option maxHeartbeats 4000000 in
/-- The kernel's fifth operand is the reciprocal norm, two image rows to a packed row. -/
theorem V_inv (c : Dev nD) : V m c main_v114 = shapeCast S32x128 invV shapeCasts_S64x64_S32x128 := by
  unfold_abbrev_sides
  simp only [List.flatten_cons, List.flatten_nil, List.append_nil, List.cons_append, List.nil_append]
  after_reads_simp
  rfl

end Cert.KernelIdeal.Tables
end
-- ==== Proof.Entries.lean ====
module

public import proofs.«01_k».proof.Proof.Tables

/-! The entries of the tables. -/

@[expose] public section

set_option maxRecDepth 16384

noncomputable section

open Idealize.ShloMosaic Idealize.ShloMosaic.TcCoe Idealize.SL.Sem

namespace Cert.Gauss

/-- The literal five. -/
theorem lit_five : Ideal.ofBits .f32 0x40A00000#32 = ((5 : ℝ) : EReal) := by
  simp [Ideal.ofBits, Ideal.ieee, -EReal.coe_mul]; norm_num

/-- The literal two. -/
theorem lit_two : Ideal.ofBits .f32 0x40000000#32 = ((2 : ℝ) : EReal) := by
  simp [Ideal.ofBits, Ideal.ieee, -EReal.coe_mul]; norm_num

/-- The literal minus one half. -/
theorem lit_neg_half : Ideal.ofBits .f32 0xBF000000#32 = ((-(1 / 2) : ℝ) : EReal) := by
  simp [Ideal.ofBits, Ideal.ieee, -EReal.coe_mul]; norm_num

/-- The literal infinity. -/
theorem lit_inf : Ideal.ofBits .f32 0x7F800000#32 = (⊤ : EReal) := by
  simp [Ideal.ofBits, Ideal.ieee]

/-- The weight between two coordinates of one axis. -/
def gauss (i j : Fin 64) : ℝ := Real.exp (-(1 / 2) * (((i : ℕ) : ℝ) / 5 - ((j : ℕ) : ℝ) / 5) ^ 2)

theorem gauss_pos (i j : Fin 64) : 0 < gauss i j := Real.exp_pos _

theorem gauss_comm (i j : Fin 64) : gauss i j = gauss j i := by
  unfold gauss; congr 1; ring

/-- The conversion of a small count to a number is that count. -/
theorem sitofp_small (n : ℕ) (h : n < 4096) : (FloatOps.sitofp (F := Ideal) .f32 (BitVec.ofNat 32 n)) = (((n : ℕ) : ℝ) : EReal) := by
  show (((BitVec.ofNat 32 n).toInt : ℝ) : EReal) = _
  rw [BitVec.toInt_ofNat']
  have : (n : ℤ).bmod (2 ^ 32) = n := by rw [Int.bmod_eq_of_le] <;> omega
  rw [this]; simp

/-- The expanded squared difference of two real numbers is never negative. -/
theorem expanded_sq (a b : ℝ) : Ideal.div (a : EReal) ((5 : ℝ) : EReal) * Ideal.div (a : EReal) ((5 : ℝ) : EReal)
      + Ideal.div (b : EReal) ((5 : ℝ) : EReal) * Ideal.div (b : EReal) ((5 : ℝ) : EReal)
      - ((2 : ℝ) : EReal) * (Ideal.div (a : EReal) ((5 : ℝ) : EReal) * Ideal.div (b : EReal) ((5 : ℝ) : EReal))
    = (((a / 5 - b / 5) ^ 2 : ℝ) : EReal) := by
  simp only [Ideal.div_coe (show (5 : ℝ) ≠ 0 by norm_num), ← EReal.coe_mul, ← EReal.coe_add, ← EReal.coe_sub]
  congr 1; ring

end Cert.Gauss

namespace Cert.KernelIdeal.Tables
open Cert.KernelIdeal Cert.KernelIdeal.Gen Cert.Gauss

/-- The one-dimensional table holds the weights of one axis. -/
theorem gb_at (i j : Fin 64) : gbV (ix2 i j) = ((gauss i j : ℝ) : EReal) := by
  pointwise [gbV, colV, rowV]
  rw [sitofp_small _ (by omega), sitofp_small _ (by omega), lit_five, lit_two, lit_neg_half, expanded_sq,
    ← EReal.coe_mul, Ideal.exp_coe]
  rfl

/-- No squared distance along an axis is negative. -/
theorem line_nonneg (d : IVec S133 32) (k : Fin 133) (j : Fin 64) : 0 ≤ lineV d (ix2 k j) := by
  pointwise [lineV, nbrV, nbrDivV, rowV]
  rw [sitofp_small _ (by omega), lit_five, lit_two, lit_inf]
  unfold Scalar.select
  split
  · rw [show FloatOps.sitofp (F := Ideal) .f32 (IntOp.addi (BitVec.ofNat 32 ↑j) (d (ix1 k)))
      = (((IntOp.addi (BitVec.ofNat 32 ↑j) (d (ix1 k))).toInt : ℝ) : EReal) from rfl, expanded_sq]
    exact EReal.coe_nonneg.mpr (sq_nonneg _)
  · exact le_top

/-- A squared distance to a listed neighbour is the sum of the two along the axes. -/
theorem dist_at (u v : FVec Ideal S133x64 .f32) (k : Fin 133) (i j : Fin 64) :
    distOf u v (ix3 k i j) = u (ix2 k i) + v (ix2 k j) := by
  pointwise [distOf]

/-- A correction is zero unless the squared distance is negative. -/
theorem corrOf_at (s : FVec Ideal S133x64x64 .f32) (k : Fin 133) (i j : Fin 64) :
    corrOf s (ix3 k i j) = if s (ix3 k i j) < 0 then 1 - Ideal.exp (((-(1 / 2) : ℝ) : EReal) * s (ix3 k i j)) else 0 := by
  rw [← lit_neg_half]
  pointwise [corrOf]

/-- No weight is corrected: every squared distance is at least zero. -/
theorem corr_at (k : Fin 133) (i j : Fin 64) : corrV (ix3 k i j) = 0 := by
  rw [corrV, distV, corrOf_at, dist_at]
  exact if_neg (not_lt.mpr (add_nonneg (line_nonneg _ _ _) (line_nonneg _ _ _)))

/-- A packed correction table holds two image rows to a packed row. -/
theorem corrPackedOf_at (r : FVec Ideal S133x64x64 .f32) (k : Fin 133) (p : Fin 32) (l : Fin 128) :
    corrPackedOf r (ix3 k p l) = r (ix3 k ⟨p * 2 + l / 64, by omega⟩ ⟨l % 64, by omega⟩) := by
  pointwise [corrPackedOf]

/-- The packed correction table is zero. -/
theorem corrPacked_at (k : Fin 133) (p : Fin 32) (l : Fin 128) : corrPackedV (ix3 k p l) = 0 :=
  (corrPackedOf_at _ k p l).trans (corr_at _ _ _)

/-- The row sums of a table. -/
theorem sumOf_at (g : FVec Ideal S64x64 .f32) (i : Fin 64) : sumOf g (ix1 i) = ∑ j : Fin 64, g (ix2 i j) := by
  pointwise [sumOf]

/-- A reciprocal norm is one over the product of the two row sums plus the corrections plus the small constant. -/
theorem invOf_at (g : FVec Ideal S64x64 .f32) (r : FVec Ideal S133x64x64 .f32) (i j : Fin 64) : invOf g r (ix2 i j)
    = Ideal.div 1 ((∑ a : Fin 64, g (ix2 i a)) * (∑ b : Fin 64, g (ix2 j b)) + ∑ k : Fin 133, r (ix3 k i j)
        + Ideal.ofBits .f32 0x25800000#32) := by
  pointwise [invOf]
  rw [sumOf_at, sumOf_at]

/-- The reciprocal norm is one over the product of the two row sums plus the small constant. -/
theorem inv_at (i j : Fin 64) : invV (ix2 i j)
    = Ideal.div 1 ((∑ a : Fin 64, ((gauss i a : ℝ) : EReal)) * (∑ b : Fin 64, ((gauss j b : ℝ) : EReal))
        + Ideal.ofBits .f32 0x25800000#32) := by
  rw [invV, invOf_at, Finset.sum_eq_zero fun k _ => corr_at k i j, add_zero]
  simp only [gb_at]

/-- The row pass's table, block by block. -/
theorem gb2_blocks (g : FVec Ideal S64x64 .f32) (k l : Fin 128) : gb2Of g (ix2 k l)
    = if h : (k : ℕ) < 64 then
        if h' : (l : ℕ) < 64 then g (ix2 ⟨k, by omega⟩ ⟨l, by omega⟩) else 0
      else
        if h' : (l : ℕ) < 64 then 0 else g (ix2 ⟨k - 64, by omega⟩ ⟨l - 64, by omega⟩) := by
  pointwise [gb2Of, zeroTabV]

/-- The row pass's table is block diagonal: the given table in both diagonal blocks, zero off them. -/
theorem gb2_at (g : FVec Ideal S64x64 .f32) (k l : Fin 128) : gb2Of g (ix2 k l)
    = if (k : ℕ) / 64 = (l : ℕ) / 64 then g (ix2 ⟨(k : ℕ) % 64, by omega⟩ ⟨(l : ℕ) % 64, by omega⟩) else 0 := by
  rw [gb2_blocks]
  by_cases hk : (k : ℕ) < 64 <;> by_cases hl : (l : ℕ) < 64
  · rw [dif_pos hk, dif_pos hl, if_pos (show (k : ℕ) / 64 = l / 64 by omega)]
    simp only [Nat.mod_eq_of_lt hk, Nat.mod_eq_of_lt hl]
  · rw [dif_pos hk, dif_neg hl, if_neg (show ¬ (k : ℕ) / 64 = l / 64 by omega)]
  · rw [dif_neg hk, dif_pos hl, if_neg (show ¬ (k : ℕ) / 64 = l / 64 by omega)]
  · rw [dif_neg hk, dif_neg hl, if_pos (show (k : ℕ) / 64 = l / 64 by omega)]
    simp only [show (k : ℕ) % 64 = k - 64 by omega, show (l : ℕ) % 64 = l - 64 by omega]

/-- The column pass's table: even rows first, each half matched with the rows it meets. -/
theorem geo_at (g : FVec Ideal S64x64 .f32) (a b : Fin 64) : geoOf g (ix2 a b)
    = if h : (a : ℕ) < 32 then
        if h' : (b : ℕ) < 32 then g (ix2 ⟨2 * a, by omega⟩ ⟨2 * b, by omega⟩)
        else g (ix2 ⟨2 * a, by omega⟩ ⟨1 + 2 * (b - 32), by omega⟩)
      else
        if h' : (b : ℕ) < 32 then g (ix2 ⟨1 + 2 * (a - 32), by omega⟩ ⟨1 + 2 * b, by omega⟩)
        else g (ix2 ⟨1 + 2 * (a - 32), by omega⟩ ⟨2 * (b - 32), by omega⟩) := by
  pointwise [geoOf]

/-- The packed reciprocal norm holds two image rows to a packed row. -/
theorem invPacked_at (v : FVec Ideal S64x64 .f32) (p : Fin 32) (l : Fin 128) :
    shapeCast S32x128 v shapeCasts_S64x64_S32x128 (ix2 p l)
      = v (ix2 ⟨p * 2 + l / 64, by omega⟩ ⟨l % 64, by omega⟩) := by
  pointwise []

/-- The packed input holds two image rows to a packed row. -/
theorem qPacked_at (x : FVec Ideal S1x21x64x64 .f32) (c : Fin 21) (p : Fin 32) (l : Fin 128) :
    shapeCast S21x32x128 x shapeCasts_S1x21x64x64_S21x32x128 (ix3 c p l)
      = x (ix4 0 c ⟨p * 2 + l / 64, by omega⟩ ⟨l % 64, by omega⟩) := by
  pointwise []

end Cert.KernelIdeal.Tables
end
-- ==== Proof.Block.lean ====
module

public import proofs.«01_k».proof.Proof.Gen.KernelIdeal.Frame
public import Idealize.ShloMosaic.Lib.Pipeline.ValueKit
public import Idealize.ShloMosaic.Lib.Pointwise

/-! What one run of the kernel body leaves in its output block when the correction table is zero: the separable
filter times the reciprocal norm. -/

@[expose] public section

set_option maxRecDepth 16384

noncomputable section

open Idealize.ShloMosaic Idealize.ShloMosaic.TcCoe Idealize.SL.Sem
open Idealize.ShloMosaic.ValueIdx

namespace Cert.KernelIdeal.Block
open Cert.KernelIdeal Cert.KernelIdeal.Gen

/-- The all-zero vector. -/
def zeroV (s : Shape) (φ : FTy) : FVec Ideal s φ := fun _ => (0 : EReal)

/-- A reshape of the zero vector is the zero vector. -/
theorem shapeCast_zeroV (s s' : Shape) (φ : FTy) (h) : shapeCast s' (zeroV s φ) h = zeroV s' φ := rfl

/-- A widening of the zero vector is the zero vector. -/
theorem extf_zeroV (s : Shape) (φ φ' : FTy) (h) : extf φ' (zeroV s φ) h = zeroV s φ' := rfl

/-- A broadcast of the zero vector is the zero vector. -/
theorem broadcastTo_zeroV (s s' : Shape) (φ : FTy) (h) : broadcastTo s' (zeroV s φ) h = zeroV s' φ := rfl

/-- The zero vector times anything is the zero vector: `0 * x = 0` for every extended real. -/
theorem mulf_zeroV (s : Shape) (φ : FTy) (x : FVec Ideal s φ) : mulf (zeroV s φ) x = zeroV s φ :=
  funext fun _ => zero_mul _

/-- Adding the zero vector changes nothing. -/
theorem addf_zeroV (s : Shape) (φ : FTy) (x : FVec Ideal s φ) : addf x (zeroV s φ) = x :=
  funext fun _ => add_zero _

/-- A load of one plane out of a whole buffer that holds zero is zero. -/
theorem readAt_zeroV (arg4 : Memref sig .tc .vmem S133x32x128 .bf16) (h4 : arg4.IsWhole)
    (off : Fin S133x32x128.rank → ℕ) (inb : ∀ a, off a + S1x32x128.size a ≤ S133x32x128.size a) :
    View.readAt (Elt Ideal) arg4.view (Rect.unit off (no_index S1x32x128.size) inb).toLoadRect
      (h4.unread (zeroV S133x32x128 .bf16)) = zeroV S1x32x128 .bf16 := by
  rw [View.readAt_eq_ld, Memref.IsWhole.read_unread]
  rfl

/-- The separable filter of one block, in the kernel's own operations. -/
def sepV (x0 : Vec Ideal S7x32x128 .f32) (x1 : Vec Ideal S128x128 .f32) (x2 : Vec Ideal S64x64 .f32) :
    FVec Ideal S7x32x128 .f32 :=
  k0_pay10 (k0_pay2 x0 x1) k0_pay3 (k0_pay4 x2) (k0_pay5 x0 x1 x2) (k0_pay6 x0 x1 x2) (k0_pay7 x0 x1 x2)
    (k0_pay8 x0 x1 x2) (k0_pay9 x0 x1 x2)

set_option maxHeartbeats 4000000 in
/-- With a zero correction table the body leaves the separable filter times the reciprocal norm. -/
theorem out_block (c : Dev nD) (i : grid0.Coords) (arg1 : Memref sig .tc .vmem S7x32x128 .f32) (harg1 : arg1.IsWhole)
    (arg2 : Memref sig .tc .vmem S128x128 .f32) (harg2 : arg2.IsWhole)
    (arg3 : Memref sig .tc .vmem S64x64 .f32) (harg3 : arg3.IsWhole)
    (arg4 : Memref sig .tc .vmem S133x32x128 .bf16) (harg4 : arg4.IsWhole)
    (arg5 : Memref sig .tc .vmem S32x128 .f32) (harg5 : arg5.IsWhole)
    (arg6 : Memref sig .tc .vmem S7x32x128 .f32) (harg6 : arg6.IsWhole)
    (arg7 : Memref sig .tc .vmem S26x7x38x128 .f32) (harg7 : arg7.IsWhole)
    (x0 : Vec Ideal S7x32x128 .f32) (x1 : Vec Ideal S128x128 .f32) (x2 : Vec Ideal S64x64 .f32)
    (x4 : Vec Ideal S32x128 .f32) :
    out0_A_5 c i arg1 harg1 arg2 harg2 arg3 harg3 arg4 harg4 arg5 harg5 arg6 harg6 arg7 harg7 x0 x1 x2
      (zeroV S133x32x128 .bf16) x4
    = mulf (sepV x0 x1 x2) (broadcastTo S7x32x128 (shapeCast S1x32x128 (shapeCast S32x128 x4 shapeCasts_S32x128_S32x128)
        shapeCasts_S32x128_S1x32x128) broadcasts_S1x32x128_S7x32x128) := by
  unfold out0_A_5
  rw [View.read_writes_eq_canon _ _ _ (fun y => cover0_A_5 _ _ _ _ _ _ _ _ _ _ _ _ _ _ _ _ _ _ _ _ _ y)]
  unfold kernelRun0_A
  dsimp only
  rw [View.canon_unit_zero (by decide)]
  simp only [
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44,
    kernelRun0_A.sl.r_45, kernelRun0_A.sl.r_46, kernelRun0_A.sl.r_47, kernelRun0_A.sl.r_48, kernelRun0_A.sl.r_49,
    kernelRun0_A.sl.r_50, kernelRun0_A.sl.r_51, kernelRun0_A.sl.r_52, kernelRun0_A.sl.r_53, kernelRun0_A.sl.r_54,
    kernelRun0_A.sl.r_55, kernelRun0_A.sl.r_56, kernelRun0_A.sl.r_57, kernelRun0_A.sl.r_58, kernelRun0_A.sl.r_59,
    kernelRun0_A.sl.r_60, kernelRun0_A.sl.r_61, kernelRun0_A.sl.r_62, kernelRun0_A.sl.r_63, kernelRun0_A.sl.r_64,
    kernelRun0_A.sl.r_65, kernelRun0_A.sl.r_66, kernelRun0_A.sl.r_67, kernelRun0_A.sl.r_68, kernelRun0_A.sl.r_69,
    kernelRun0_A.sl.r_70, kernelRun0_A.sl.r_71, kernelRun0_A.sl.r_72, kernelRun0_A.sl.r_73, kernelRun0_A.sl.r_74,
    kernelRun0_A.sl.r_75, kernelRun0_A.sl.r_76, kernelRun0_A.sl.r_77, kernelRun0_A.sl.r_78, kernelRun0_A.sl.r_79,
    kernelRun0_A.sl.r_80, kernelRun0_A.sl.r_81, kernelRun0_A.sl.r_82, kernelRun0_A.sl.r_83, kernelRun0_A.sl.r_84,
    kernelRun0_A.sl.r_85, kernelRun0_A.sl.r_86, kernelRun0_A.sl.r_87, kernelRun0_A.sl.r_88, kernelRun0_A.sl.r_89,
    kernelRun0_A.sl.r_90, kernelRun0_A.sl.r_91, kernelRun0_A.sl.r_92, kernelRun0_A.sl.r_93, kernelRun0_A.sl.r_94,
    kernelRun0_A.sl.r_95, kernelRun0_A.sl.r_96, kernelRun0_A.sl.r_97, kernelRun0_A.sl.r_98, kernelRun0_A.sl.r_99,
    kernelRun0_A.sl.r_100, kernelRun0_A.sl.r_101, kernelRun0_A.sl.r_102, kernelRun0_A.sl.r_103,
    kernelRun0_A.sl.r_104, kernelRun0_A.sl.r_105, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189,
    k0_pay190, k0_pay191, k0_pay192, k0_pay193, k0_pay194, k0_pay195, k0_pay196,
    readAt_zeroV, shapeCast_zeroV, extf_zeroV, broadcastTo_zeroV, mulf_zeroV, addf_zeroV]
  simp only [kernelRun0_A.sl.r_1, kernelRun0_A.sl.r_2, kernelRun0_A.sl.r_3, kernelRun0_A.sl.r_4, kernelRun0_A.sl.r_5,
    kernelRun0_A.sl.r_6, kernelRun0_A.sl.r_7, kernelRun0_A.sl.r_8, View.readAt_eq_ld, Memref.IsWhole.read_unread]
  simp (disch := decide) only [View.ld_unit_lit']
  rfl

end Cert.KernelIdeal.Block
end
-- ==== Proof.Separable.lean ====
module

public import proofs.«01_k».proof.Proof.Block

/-! The separable filter of one block, element by element. -/

@[expose] public section

set_option maxRecDepth 16384

noncomputable section

open Idealize.ShloMosaic Idealize.ShloMosaic.TcCoe Idealize.SL.Sem

namespace Cert.KernelIdeal.Block
open Cert.KernelIdeal Cert.KernelIdeal.Gen

/-- The row pass and its half-turned copy, stacked: the first 32 rows are the packed rows times the block-diagonal
table, the last 32 the same with the two halves of the lanes exchanged. -/
theorem rows_at (x0 : Vec Ideal S7x32x128 .f32) (x1 : Vec Ideal S128x128 .f32) (c : Fin 7) (r : Fin 64) (l : Fin 128) :
    k0_pay2 x0 x1 (ix3 c r l) = if h : (r : ℕ) < 32 then ∑ k : Fin 128, x0 (ix3 c ⟨r, h⟩ k) * x1 (ix2 k l)
      else ∑ k : Fin 128, x0 (ix3 c ⟨r - 32, by omega⟩ k) * x1 (ix2 k ⟨(l + 64) % 128, by omega⟩) := by
  pointwise [k0_pay2, k0_pay1]
  split
  · refine Finset.sum_congr rfl fun k _ => ?_
    blk_point []
  · refine Finset.sum_congr rfl fun k _ => ?_
    blk_point []

/-- The lanes below 64 are those whose number, as a 32-bit word, is less than 64. -/
theorem low_lane (l : Fin 128) (a b : EReal) :
    Scalar.select (IntOp.cmpi CmpIPredicate.slt (BitVec.ofNat 32 (l : ℕ)) 64#32) a b = if (l : ℕ) < 64 then a else b := by
  have h : ∀ l : Fin 128, IntOp.cmpi CmpIPredicate.slt (BitVec.ofNat 32 (l : ℕ)) 64#32
      = if (l : ℕ) < 64 then 1 else 0 := by decide +kernel
  rw [h l]
  split <;> rfl

/-- The column pass: an even image row's lanes take the first half of the geometry table, an odd row's the second. -/
theorem sep_at (x0 : Vec Ideal S7x32x128 .f32) (x1 : Vec Ideal S128x128 .f32) (x2 : Vec Ideal S64x64 .f32)
    (c : Fin 7) (p : Fin 32) (l : Fin 128) :
    sepV x0 x1 x2 (ix3 c p l) = if (l : ℕ) < 64 then ∑ r : Fin 64, x2 (ix2 ⟨p, by omega⟩ r) * k0_pay2 x0 x1 (ix3 c r l)
      else ∑ r : Fin 64, x2 (ix2 ⟨32 + p, by omega⟩ r) * k0_pay2 x0 x1 (ix3 c r l) := by
  rw [← low_lane]
  fin_cases c <;> pointwise [sepV, k0_pay10, k0_pay4, k0_pay3, k0_pay5, k0_pay6, k0_pay7, k0_pay8, k0_pay9]

end Cert.KernelIdeal.Block
end
-- ==== Proof.Equation.lean ====
module

public import proofs.«01_k».proof.Proof.Entries
public import proofs.«01_k».proof.Proof.Separable

/-! The two passes of the kernel, over its tables, are the dense weighted sum. -/

@[expose] public section

set_option maxRecDepth 16384

noncomputable section

open Idealize.ShloMosaic Idealize.ShloMosaic.TcCoe Idealize.SL.Sem

namespace Cert.Gauss

/-- A real number that is at least zero distributes over a finite sum of extended reals. -/
theorem coe_mul_sum {ι : Type*} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top _) _ _

/-- A finite sum of real numbers, read as an extended real, is the sum of the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum over the pixels is a sum over rows of sums over columns. -/
theorem sum_pixels (f : Fin 4096 → EReal) :
    ∑ n, f n = ∑ a : Fin 64, ∑ b : Fin 64, f ⟨a * 64 + b, by omega⟩ :=
  Fin.sum_univ_tiles 64 64 rfl f

/-- A sum over 64 rows is the sum over the even rows plus the sum over the odd rows. -/
theorem sum_even_odd (f : Fin 64 → EReal) :
    ∑ y, f y = ∑ a : Fin 32, f ⟨2 * a, by omega⟩ + ∑ a : Fin 32, f ⟨1 + 2 * a, by omega⟩ := by
  rw [Fin.sum_univ_tiles 32 2 rfl f, ← Finset.sum_add_distrib]
  refine Finset.sum_congr rfl fun a _ => ?_
  rw [Fin.sum_univ_two]
  exact congrArg₂ (· + ·) (congrArg f (Fin.ext (show (a : ℕ) * 2 + 0 = 2 * a by omega)))
    (congrArg f (Fin.ext (show (a : ℕ) * 2 + 1 = 1 + 2 * a by omega)))

/-- The row pass: the weighted sum along one image row. -/
def rowPass (g : Fin 64 → Fin 64 → EReal) (X : Fin 64 → Fin 64 → EReal) (y x : Fin 64) : EReal :=
  ∑ k : Fin 64, X y k * g k x

/-- The two passes: the weighted sum down a column of the row passes. -/
def twoPass (g : Fin 64 → Fin 64 → EReal) (X : Fin 64 → Fin 64 → EReal) (i j : Fin 64) : EReal :=
  ∑ a : Fin 64, g i a * rowPass g X a j

/-- The two passes are the dense sum over all pixels. -/
theorem twoPass_eq_dense (X : Fin 64 → Fin 64 → EReal) (i j : Fin 64) :
    twoPass (fun i j => ((gauss i j : ℝ) : EReal)) X i j = ∑ n : Fin 4096,
      ((gauss i ⟨n / 64, by omega⟩ * gauss j ⟨n % 64, by omega⟩ : ℝ) : EReal)
        * X ⟨n / 64, by omega⟩ ⟨n % 64, by omega⟩ := by
  rw [sum_pixels]
  refine Finset.sum_congr rfl fun a _ => ?_
  rw [rowPass, coe_mul_sum _ _ (gauss_pos i a).le]
  refine Finset.sum_congr rfl fun b _ => ?_
  simp only [show ((a : ℕ) * 64 + b) / 64 = a by omega, show ((a : ℕ) * 64 + b) % 64 = b by omega, Fin.eta]
  rw [gauss_comm b j, EReal.coe_mul, mul_comm (X a b), mul_assoc]

/-- The sum of all weights of a pixel is the product of its two row sums. -/
theorem norm_eq (i j : Fin 64) :
    (∑ a : Fin 64, ((gauss i a : ℝ) : EReal)) * (∑ b : Fin 64, ((gauss j b : ℝ) : EReal))
      = ∑ n : Fin 4096, ((gauss i ⟨n / 64, by omega⟩ * gauss j ⟨n % 64, by omega⟩ : ℝ) : EReal) := by
  rw [sum_pixels]
  simp only [← coe_sum, ← EReal.coe_mul]
  refine congrArg (fun r : ℝ => (r : EReal)) ?_
  rw [Finset.sum_mul_sum]
  refine Finset.sum_congr rfl fun a _ => Finset.sum_congr rfl fun b _ => ?_
  simp only [show ((a : ℕ) * 64 + b) / 64 = a by omega, show ((a : ℕ) * 64 + b) % 64 = b by omega, Fin.eta]

end Cert.Gauss

namespace Cert.KernelIdeal.Block
open Cert.KernelIdeal Cert.KernelIdeal.Gen Cert.Gauss Cert.KernelIdeal.Tables

/-- A packed row against the block-diagonal table is the row pass of the image row its lane belongs to. -/
theorem packed_row (g : FVec Ideal S64x64 .f32) (X : Fin 64 → Fin 64 → EReal) (u : Fin 128 → EReal) (r : Fin 32)
    (hu : ∀ k : Fin 128, u k = X ⟨r * 2 + k / 64, by omega⟩ ⟨k % 64, by omega⟩) (l : Fin 128) :
    ∑ k : Fin 128, u k * (gb2Of g) (ix2 k l) = rowPass (fun i j => g (ix2 i j)) X ⟨r * 2 + l / 64, by omega⟩ ⟨l % 64, by omega⟩ := by
  rw [Fin.sum_univ_two_halves 64 64 rfl]
  by_cases hl : (l : ℕ) < 64
  · rw [Finset.sum_eq_zero (s := Finset.univ (α := Fin 64)) (f := fun k => _ * (gb2Of g) (ix2 ⟨64 + k, _⟩ l)), add_zero]
    · refine Finset.sum_congr rfl fun k _ => ?_
      rw [gb2_at, hu, if_pos (by show (k : ℕ) / 64 = _; omega)]
      simp only [show (k : ℕ) % 64 = k by omega, show (k : ℕ) / 64 = (l : ℕ) / 64 by omega, Fin.eta]
    · intro k _
      rw [gb2_at, if_neg (by show (64 + (k : ℕ)) / 64 ≠ _; omega), mul_zero]
  · rw [Finset.sum_eq_zero (s := Finset.univ (α := Fin 64)) (f := fun k => _ * (gb2Of g) (ix2 ⟨(k : ℕ), _⟩ l)), zero_add]
    · refine Finset.sum_congr rfl fun k _ => ?_
      rw [gb2_at, hu, if_pos (by show (64 + (k : ℕ)) / 64 = _; omega)]
      simp only [show (64 + (k : ℕ)) % 64 = k by omega, show (64 + (k : ℕ)) / 64 = (l : ℕ) / 64 by omega, Fin.eta]
    · intro k _
      rw [gb2_at, if_neg (by show ((k : ℕ)) / 64 ≠ _; omega), mul_zero]

/-- The kernel's separable sum over its tables is the two passes at the pixel a packed place stands for. -/
theorem sep_eq (g : FVec Ideal S64x64 .f32) (X : Fin 64 → Fin 64 → EReal) (x0 : FVec Ideal S7x32x128 .f32) (c : Fin 7)
    (hx : ∀ (r : Fin 32) (k : Fin 128), x0 (ix3 c r k) = X ⟨r * 2 + k / 64, by omega⟩ ⟨k % 64, by omega⟩)
    (p : Fin 32) (l : Fin 128) :
    sepV x0 (gb2Of g) (geoOf g) (ix3 c p l) = twoPass (fun i j => g (ix2 i j)) X ⟨p * 2 + l / 64, by omega⟩ ⟨l % 64, by omega⟩ := by
  have low (a : Fin 32) : (k0_pay2 x0 (gb2Of g) : FVec Ideal S7x64x128 .f32) (ix3 c ⟨a, by omega⟩ l)
      = rowPass (fun i j => g (ix2 i j)) X ⟨a * 2 + l / 64, by omega⟩ ⟨l % 64, by omega⟩ := by
    rw [rows_at, dif_pos a.isLt]
    exact packed_row g X (fun k => x0 (ix3 c a k)) a (hx a) l
  have high (a : Fin 32) : (k0_pay2 x0 (gb2Of g) : FVec Ideal S7x64x128 .f32) (ix3 c ⟨32 + a, by omega⟩ l)
      = rowPass (fun i j => g (ix2 i j)) X ⟨a * 2 + (l + 64) % 128 / 64, by omega⟩ ⟨l % 64, by omega⟩ := by
    rw [rows_at, dif_neg (by show ¬ 32 + (a : ℕ) < 32; omega)]
    simp only [show 32 + (a : ℕ) - 32 = a by omega, Fin.eta]
    rw [packed_row g X (fun k => x0 (ix3 c a k)) a (hx a) ⟨(l + 64) % 128, by omega⟩]
    simp only [show ((l : ℕ) + 64) % 128 % 64 = l % 64 by omega]
  refine (sep_at x0 (gb2Of g) (geoOf g) c p l).trans (Eq.trans ?_ (sum_even_odd _).symm)
  by_cases hl : (l : ℕ) < 64
  · rw [if_pos hl, Fin.sum_univ_two_halves 32 32 rfl]
    refine congrArg₂ (· + ·) (Finset.sum_congr rfl fun a _ => ?_) (Finset.sum_congr rfl fun a _ => ?_)
    · rw [low, geo_at, dif_pos p.isLt, dif_pos a.isLt]
      simp only [show (p : ℕ) * 2 + l / 64 = 2 * p by omega, show (a : ℕ) * 2 + l / 64 = 2 * a by omega]
    · rw [high, geo_at, dif_pos p.isLt, dif_neg (by show ¬ 32 + (a : ℕ) < 32; omega)]
      simp only [show (p : ℕ) * 2 + l / 64 = 2 * p by omega, show 32 + (a : ℕ) - 32 = a by omega,
        show (a : ℕ) * 2 + (l + 64) % 128 / 64 = 1 + 2 * a by omega]
  · rw [if_neg hl, Fin.sum_univ_two_halves 32 32 rfl, add_comm]
    refine congrArg₂ (· + ·) (Finset.sum_congr rfl fun a _ => ?_) (Finset.sum_congr rfl fun a _ => ?_)
    · rw [high, geo_at, dif_neg (by show ¬ 32 + (p : ℕ) < 32; omega), dif_neg (by show ¬ 32 + (a : ℕ) < 32; omega)]
      simp only [show (p : ℕ) * 2 + l / 64 = 1 + 2 * p by omega, show 32 + (a : ℕ) - 32 = a by omega,
        show 32 + (p : ℕ) - 32 = p by omega, show (a : ℕ) * 2 + (l + 64) % 128 / 64 = 2 * a by omega]
    · rw [low, geo_at, dif_neg (by show ¬ 32 + (p : ℕ) < 32; omega), dif_pos a.isLt]
      simp only [show (p : ℕ) * 2 + l / 64 = 1 + 2 * p by omega, show 32 + (p : ℕ) - 32 = p by omega,
        show (a : ℕ) * 2 + l / 64 = 1 + 2 * a by omega]

end Cert.KernelIdeal.Block
end
-- ==== Proof.Array.lean ====
module

public import proofs.«01_k».proof.Proof.Equation

/-! What the kernel's result array holds after the run. -/

@[expose] public section

set_option maxRecDepth 16384

noncomputable section

open Idealize.ShloMosaic Idealize.ShloMosaic.TcCoe Idealize.SL.Sem

namespace Cert.KernelIdeal.Array
open Cert.KernelIdeal Cert.KernelIdeal.Gen Cert.Gauss Cert.KernelIdeal.Tables Cert.KernelIdeal.Block

variable (m : (ℓ : Loc nD τ sig) → Buf (Elt Ideal) ℓ)

/-- The packed result: at every packed place the two passes over the channel's image, times the reciprocal norm. -/
def packedV (x : FVec Ideal S1x21x64x64 .f32) : FVec Ideal S21x32x128 .f32 := fun i =>
  twoPass (fun i j => ((gauss i j : ℝ) : EReal)) (fun a b => x (ix4 0 (i 0) a b))
      ⟨(i 1 : ℕ) * 2 + (i 2 : ℕ) / 64, by have h1 : (i 1 : ℕ) < 32 := (i 1).isLt; have h2 : (i 2 : ℕ) < 128 := (i 2).isLt; omega⟩
      ⟨(i 2 : ℕ) % 64, by omega⟩
    * invV (ix2 ⟨(i 1 : ℕ) * 2 + (i 2 : ℕ) / 64, by have h1 : (i 1 : ℕ) < 32 := (i 1).isLt; have h2 : (i 2 : ℕ) < 128 := (i 2).isLt; omega⟩
      ⟨(i 2 : ℕ) % 64, by omega⟩)

/-- Which block every window stages at a point: the channel block for the input and the result, the whole table otherwise. -/
theorem idx : ∀ t : Fin cfg0.N, win0_0.index t = ![(t : ℕ), 0, 0] ∧ win0_1.index t = ![0, 0] ∧ win0_2.index t = ![0, 0]
    ∧ win0_3.index t = ![0, 0, 0] ∧ win0_4.index t = ![0, 0] ∧ win0_5.index t = ![(t : ℕ), 0, 0] :=
  (by decide +kernel : ∀ t : Fin grid0.N, _)

theorem corr_zero : corrPackedV = zeroV S133x32x128 .bf16 := by
  funext i
  idx_vars i
  exact corrPacked_at _ _ _

/-- The staged correction block is zero. -/
theorem blk3 (c : Dev nD) (t : Fin cfg0.N) : iblk m c 3 t = zeroV S133x32x128 .bf16 := by
  unfold iblk
  rw [show V m c (Pipeline.arrRef spec0 3) = _ from (V_corr m c).trans corr_zero]
  rfl

/-- The staged row-pass table is the whole table. -/
theorem blk1 (c : Dev nD) (t : Fin cfg0.N) : iblk m c 1 t = gb2V := by
  funext y
  blk_simp [iblk]
  rw [show V m c main_v118 = _ from V_gb2 m c]
  blk_ext [idx t]

/-- The staged column-pass table is the whole table. -/
theorem blk2 (c : Dev nD) (t : Fin cfg0.N) : iblk m c 2 t = geoV := by
  funext y
  blk_simp [iblk]
  rw [show V m c main_v125 = _ from V_geo m c]
  blk_ext [idx t]

/-- The staged reciprocal norm is the whole packed table. -/
theorem blk4 (c : Dev nD) (t : Fin cfg0.N) : iblk m c 4 t = shapeCast S32x128 invV shapeCasts_S64x64_S32x128 := by
  funext y
  blk_simp [iblk]
  rw [show V m c main_v114 = _ from V_inv m c]
  blk_ext [idx t]

/-- The staged input block holds seven channels of the packed input. -/
theorem blk0 (c : Dev nD) (t : Fin cfg0.N) (k : Fin 7) (r : Fin 32) (l : Fin 128) (hk : (t : ℕ) * 7 + k < 21) :
    (iblk m c 0 t : FVec Ideal S7x32x128 .f32) (ix3 k r l)
      = (m ((c : Thread nD τ).loc main_arg0) : FVec Ideal S1x21x64x64 .f32)
          (ix4 0 ⟨t * 7 + k, hk⟩ ⟨r * 2 + l / 64, by omega⟩ ⟨l % 64, by omega⟩) := by
  rw [← qPacked_at (m ((c : Thread nD τ).loc main_arg0)) ⟨t * 7 + k, hk⟩ r l]
  blk_simp [iblk]
  rw [show V m c main_v128 = _ from V_q m c]
  blk_ext [idx t]

/-- The packed result at a packed place. -/
theorem packed_at (x : FVec Ideal S1x21x64x64 .f32) (c : Fin 21) (p : Fin 32) (l : Fin 128) :
    packedV x (ix3 c p l)
      = twoPass (fun i j => ((gauss i j : ℝ) : EReal)) (fun a b => x (ix4 0 c a b)) ⟨p * 2 + l / 64, by omega⟩ ⟨l % 64, by omega⟩
        * invV (ix2 ⟨p * 2 + l / 64, by omega⟩ ⟨l % 64, by omega⟩) := rfl

/-- The weights of one axis are the one-dimensional table's entries. -/
theorem gb_fun : (fun i j : Fin 64 => gbV (ix2 i j)) = fun i j => ((gauss i j : ℝ) : EReal) :=
  funext fun i => funext fun j => gb_at i j

/-- What one grid point leaves at a place of its block is the packed result of that channel at that place. -/
theorem point (c : Dev nD) (t : Fin cfg0.N) (k : Fin 7) (p : Fin 32) (l : Fin 128) (hk : (t : ℕ) * 7 + k < 21) :
    mulf (sepV (iblk m c 0 t) gb2V geoV)
      (broadcastTo S7x32x128 (shapeCast S1x32x128
          (shapeCast S32x128 (shapeCast S32x128 invV shapeCasts_S64x64_S32x128) shapeCasts_S32x128_S32x128)
          shapeCasts_S32x128_S1x32x128) broadcasts_S1x32x128_S7x32x128) (ix3 k p l)
      = packedV (m ((c : Thread nD τ).loc main_arg0)) (ix3 ⟨t * 7 + k, hk⟩ p l) := by
  rw [packed_at, ← gb_fun, ← sep_eq gbV _ (iblk m c 0 t) k (fun r l => blk0 m c t k r l hk)]
  pointwise []
  rfl

/-- The result array after the run is the packed result. -/
theorem final (c : Dev nD) : (dats m 0 c).arrAt 5 (cfgs 0).N = packedV (m ((c : Thread nD τ).loc main_arg0)) := by
  refine (dats m 0 c).arrAt_eq_of_covers 5 _ (by decide +kernel) fun t _ y => ?_
  blk_simp
  rw [after0_5, outsAt0, blk1, blk2, blk3, blk4, out_block]
  have ht : (t : ℕ) < 3 := t.isLt
  obtain ⟨k, p, l, rfl⟩ : ∃ (k : Fin 7) (p : Fin 32) (l : Fin 128), (y : S7x32x128.Idx) = ix3 k p l :=
    ⟨y 0, y 1, y 2, by funext a; fin_cases a <;> rfl⟩
  refine (point m c t k p l (by omega)).trans ?_
  blk_ext [idx t]

/-- The returned array is the packed result, unpacked to the image layout. -/
theorem tail (c : Dev nD) : Pipeline.afterTail₀ cfgs (dats m) 0 (V0 m) [hostOps1] c main_v130
    = shapeCast S1x21x64x64 (packedV (m ((c : Thread nD τ).loc main_arg0))) shapeCasts_S21x32x128_S1x21x64x64 := by
  rw [← final]
  unfold Pipeline.afterTail₀
  unfold_abbrev_sides
  simp only [List.flatten_cons, List.flatten_nil, List.append_nil, List.cons_append, List.nil_append]
  after_reads_simp
  exact congrArg (fun X => shapeCast S1x21x64x64 (X : FVec Ideal S21x32x128 .f32) shapeCasts_S21x32x128_S1x21x64x64)
    (Pipeline.withArrays_arr spec0 (by decide) c (V0 m c) (fun w => (dats m 0 c).arrAt w (cfgs 0).N) 5)

/-- Every run of the kernel program ends with the unpacked result returned and its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v130)
        = shapeCast S1x21x64x64 (packedV (m ((c : Thread nD τ).loc main_arg0))) shapeCasts_S21x32x128_S1x21x64x64
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h.1 c).2 main_v130 (Pipeline.mem_restRefs_of main_v130 (by decide) (by decide))).trans (tail m c), h.2 c⟩)
    (θ_run_and (run_main m ρ) (unchanged m ρ))

end Cert.KernelIdeal.Array
end
-- ==== Proof.Dense.lean ====
module

public import proofs.«01_k».proof.Proof.Gen.ReferenceIdeal.Read
public import proofs.«01_k».proof.Proof.Entries

/-! What the reference computes: the dense weighted sum over all pixels, times the reciprocal norm. -/

@[expose] public section

set_option maxRecDepth 16384

noncomputable section

open Idealize.ShloMosaic Idealize.ShloMosaic.TcCoe Idealize.SL.Sem

namespace Cert.ReferenceIdeal.Dense
open Cert.ReferenceIdeal Cert.ReferenceIdeal.Gen Cert.ReferenceIdeal.Read Cert.Gauss

/-- The first feature of a pixel is its column over the scale. -/
theorem feat_x (n : Fin 4096) : val_main_v10 (F := Ideal) (ix2 n 0)
    = Ideal.div (((((n : ℕ) % 64 : ℕ) : ℝ)) : EReal) ((5 : ℝ) : EReal) := by
  pointwise [val_main_v10, val_main_v9, val_main_cst, val_main_v8, val_main_v7, val_main_v6, val_main_v5,
    val_main_v4, val_main_v3, val_main_v2, val_main_v1, val_main_v0]
  rw [sitofp_small _ (by omega), lit_five]

/-- The second feature of a pixel is its row over the scale. -/
theorem feat_y (n : Fin 4096) : val_main_v10 (F := Ideal) (ix2 n 1)
    = Ideal.div (((((n : ℕ) / 64 : ℕ) : ℝ)) : EReal) ((5 : ℝ) : EReal) := by
  pointwise [val_main_v10, val_main_v9, val_main_cst, val_main_v8, val_main_v7, val_main_v6, val_main_v5,
    val_main_v4, val_main_v3, val_main_v2, val_main_v1, val_main_v0]
  rw [sitofp_small _ (by omega), lit_five]

/-- The expanded squared distance of two points of the plane, clamped at zero, gives the product of the two weights. -/
theorem weight_real (a b u v : Fin 64) :
    Ideal.exp (((-(1 / 2) : ℝ) : EReal) * max
      ((Ideal.div (((b : ℕ) : ℝ) : EReal) ((5 : ℝ) : EReal) * Ideal.div (((b : ℕ) : ℝ) : EReal) ((5 : ℝ) : EReal)
          + Ideal.div (((a : ℕ) : ℝ) : EReal) ((5 : ℝ) : EReal) * Ideal.div (((a : ℕ) : ℝ) : EReal) ((5 : ℝ) : EReal))
        + (Ideal.div (((v : ℕ) : ℝ) : EReal) ((5 : ℝ) : EReal) * Ideal.div (((v : ℕ) : ℝ) : EReal) ((5 : ℝ) : EReal)
          + Ideal.div (((u : ℕ) : ℝ) : EReal) ((5 : ℝ) : EReal) * Ideal.div (((u : ℕ) : ℝ) : EReal) ((5 : ℝ) : EReal))
        - ((2 : ℝ) : EReal) *
          (Ideal.div (((b : ℕ) : ℝ) : EReal) ((5 : ℝ) : EReal) * Ideal.div (((v : ℕ) : ℝ) : EReal) ((5 : ℝ) : EReal)
          + Ideal.div (((a : ℕ) : ℝ) : EReal) ((5 : ℝ) : EReal) * Ideal.div (((u : ℕ) : ℝ) : EReal) ((5 : ℝ) : EReal))) 0)
      = ((gauss a u * gauss b v : ℝ) : EReal) := by
  simp only [Ideal.div_coe (show (5 : ℝ) ≠ 0 by norm_num), ← EReal.coe_mul, ← EReal.coe_add, ← EReal.coe_sub]
  rw [max_eq_left, ← EReal.coe_mul, Ideal.exp_coe, gauss, gauss, ← Real.exp_add]
  · congr 2; ring
  · refine EReal.coe_nonneg.mpr ?_
    have h1 := sq_nonneg (((a : ℕ) : ℝ) / 5 - ((u : ℕ) : ℝ) / 5)
    have h2 := sq_nonneg (((b : ℕ) : ℝ) / 5 - ((v : ℕ) : ℝ) / 5)
    nlinarith

/-- The dense weight of two pixels is the product of the weights of their rows and of their columns. -/
theorem weight_at (n k : Fin 4096) : val_main_v29 (F := Ideal) (ix2 n k)
    = ((gauss ⟨n / 64, by omega⟩ ⟨k / 64, by omega⟩ * gauss ⟨n % 64, by omega⟩ ⟨k % 64, by omega⟩ : ℝ) : EReal) := by
  pointwise [val_main_v29, val_main_v28, val_main_v27, val_main_cst_3, val_main_v26, val_main_v25, val_main_cst_2,
    val_main_v24, val_main_v23, val_main_v22, val_main_cst_1, val_main_v21, val_main_v20, val_main_v19, val_main_v18,
    val_main_v17, val_main_v16, val_main_v15, val_main_v14, val_main_cst_0, val_main_v13]
  simp only [Fin.sum_univ_two, feat_x, feat_y, lit_two, lit_neg_half]
  exact weight_real ⟨n / 64, by omega⟩ ⟨n % 64, by omega⟩ ⟨k / 64, by omega⟩ ⟨k % 64, by omega⟩

/-- The weights the norm is summed over are the same weights. -/
theorem weight_norm : val_main_v48 (F := Ideal) = val_main_v29 := rfl

/-- The reference's result at a pixel. -/
theorem out_at (x : FVec Ideal S1x21x64x64 .f32) (c : Fin 21) (i j : Fin 64) :
    val_main_v57 (F := Ideal) x (ix4 0 c i j)
      = (∑ n : Fin 4096, ((gauss i ⟨n / 64, by omega⟩ * gauss j ⟨n % 64, by omega⟩ : ℝ) : EReal)
          * x (ix4 0 c ⟨n / 64, by omega⟩ ⟨n % 64, by omega⟩))
        * Ideal.div 1 ((∑ n : Fin 4096, ((gauss i ⟨n / 64, by omega⟩ * gauss j ⟨n % 64, by omega⟩ : ℝ) : EReal))
            + Ideal.ofBits .f32 0x25800000#32) := by
  pointwise [val_main_v57, val_main_v56, val_main_v55, val_main_v54, val_main_v53, val_main_v52, val_main_v51,
    val_main_v50, val_main_v49, val_main_v31, val_main_v30, val_main_v12, val_main_v11, val_main_cst_4,
    val_main_cst_9, val_main_cst_10]
  simp only [weight_norm, weight_at, show ((i : ℕ) * 64 + j) / 64 = i by omega,
    show ((i : ℕ) * 64 + j) % 64 = j by omega, Fin.eta]

end Cert.ReferenceIdeal.Dense
end
-- ==== Proof.Tables2.lean ====
module

public import proofs.«01_k».proof.Proof.Gen.Kernel2Ideal.Frame
public import proofs.«01_k».proof.Proof.Entries

/-! The tables the second call computes before the kernel starts, from the coordinates it is given. -/

@[expose] public section

set_option maxRecDepth 16384

noncomputable section

open Idealize.ShloMosaic Idealize.ShloMosaic.TcCoe Idealize.SL.Sem

namespace Cert.Kernel2Ideal.Tables
open Cert.Kernel2Ideal Cert.Kernel2Ideal.Gen
open Cert.KernelIdeal.Tables (nbrV distOf corrOf corrPackedOf invOf gb2Of geoOf)

variable (m : (ℓ : Loc nD τ sig) → Buf (Elt Ideal) ℓ)

/-- A list of coordinates as a column. -/
def colOf (x : FVec Ideal S64 .f32) : FVec Ideal S64x1 .f32 := broadcastInDim S64x1 ![0] bcast_S64_S64x1_0 x

/-- A list of coordinates as a row. -/
def rowOf (x : FVec Ideal S64 .f32) : FVec Ideal S1x64 .f32 := broadcastInDim S1x64 ![1] bcast_S64_S1x64_1 x

/-- The one-dimensional table for given coordinates and rounded coordinates. -/
def gbOf (e b : FVec Ideal S64 .f32) : FVec Ideal S64x64 .f32 :=
  Host.exp (mulf (broadcastInDim S64x64 ![] bcast_S_S64x64 (constant S_ .f32 0xBF000000#32))
    (subf
      (addf (broadcastInDim S64x64 ![0, 1] bcast_S64x1_S64x64_0_1 (mulf (colOf e) (colOf e)))
        (broadcastInDim S64x64 ![0, 1] bcast_S1x64_S64x64_0_1 (mulf (rowOf e) (rowOf e))))
      (mulf (broadcastInDim S64x64 ![] bcast_S_S64x64 (constant S_ .f32 0x40000000#32))
        (mulf (broadcastInDim S64x64 ![0, 1] bcast_S64x1_S64x64_0_1 (colOf b))
          (broadcastInDim S64x64 ![0, 1] bcast_S1x64_S64x64_0_1 (rowOf b))))))

/-- The neighbour's coordinate along one axis, moved into the image, as a list of positions to read. -/
def nearV (d : IVec S133 32) : IVec S133x64x1 32 :=
  broadcastInDim S133x64x1 ![0, 1] bcast_S133x64_S133x64x1_0_1
    (minsi (broadcastInDim S133x64 ![] bcast_S_S133x64 (constantI S_ 32 63#32))
      (maxsi (broadcastInDim S133x64 ![] bcast_S_S133x64 (constantI S_ 32 0#32)) (nbrV d)))

/-- A list read at the neighbours. -/
def pickOf (x : FVec Ideal S64 .f32) (d : IVec S133 32) : FVec Ideal S133x64 .f32 :=
  Host.gather gather_S64_S133x64x1_S133x64_n_0_n_n_0_2_1 x (nearV d)

/-- The rounded squared distance along one axis to the neighbour at every listed offset, infinite off the image. -/
def lineOf (e b : FVec Ideal S64 .f32) (d : IVec S133 32) : FVec Ideal S133x64 .f32 :=
  select
    (andi (cmpi .sge (nbrV d) (broadcastInDim S133x64 ![] bcast_S_S133x64 (constantI S_ 32 0#32)))
      (cmpi .slt (nbrV d) (broadcastInDim S133x64 ![] bcast_S_S133x64 (constantI S_ 32 64#32))))
    (subf
      (addf (broadcastInDim S133x64 ![0, 1] bcast_S1x64_S133x64_0_1 (mulf (rowOf e) (rowOf e)))
        (mulf (pickOf e d) (pickOf e d)))
      (mulf (broadcastInDim S133x64 ![] bcast_S_S133x64 (constant S_ .f32 0x40000000#32))
        (mulf (broadcastInDim S133x64 ![0, 1] bcast_S1x64_S133x64_0_1 (rowOf b)) (pickOf b d))))
    (broadcastInDim S133x64 ![] bcast_S_S133x64 (constant S_ .f32 0x7F800000#32))

/-- The vertical offsets of the listed neighbours. -/
def dyV : IVec S133 32 := fun i => lit0 (S133.rowMajor i)

/-- The horizontal offsets of the listed neighbours. -/
def dxV : IVec S133 32 := fun i => lit1 (S133.rowMajor i)

/-- The corrections of the weights for given coordinates. -/
def corrT (e b : FVec Ideal S64 .f32) : FVec Ideal S133x64x64 .f32 := corrOf (distOf (lineOf e b dyV) (lineOf e b dxV))

/-- The reciprocal norm of every pixel for given coordinates. -/
def invT (e b : FVec Ideal S64 .f32) : FVec Ideal S64x64 .f32 := invOf (gbOf e b) (corrT e b)

set_option maxHeartbeats 4000000 in
/-- The kernel's first operand is the input, two image rows to a packed row. -/
theorem V_q (c : Dev nD) : V m c main_v112
    = shapeCast S21x32x128 (m ((c : Thread nD τ).loc main_arg0)) shapeCasts_S1x21x64x64_S21x32x128 := by
  unfold_abbrev_sides
  simp only [List.flatten_cons, List.flatten_nil, List.append_nil, List.cons_append, List.nil_append]
  after_reads_simp
  rfl

set_option maxHeartbeats 4000000 in
/-- The kernel's second operand is the block-diagonal table. -/
theorem V_gb2 (c : Dev nD) : V m c main_v102
    = gb2Of (gbOf (m ((c : Thread nD τ).loc main_arg1)) (m ((c : Thread nD τ).loc main_arg2))) := by
  unfold_abbrev_sides
  simp only [List.flatten_cons, List.flatten_nil, List.append_nil, List.cons_append, List.nil_append]
  after_reads_simp
  rfl

set_option maxHeartbeats 4000000 in
/-- The kernel's third operand is the even/odd ordered table. -/
theorem V_geo (c : Dev nD) : V m c main_v109
    = geoOf (gbOf (m ((c : Thread nD τ).loc main_arg1)) (m ((c : Thread nD τ).loc main_arg2))) := by
  unfold_abbrev_sides
  simp only [List.flatten_cons, List.flatten_nil, List.append_nil, List.cons_append, List.nil_append]
  after_reads_simp
  rfl

set_option maxHeartbeats 4000000 in
/-- The kernel's fourth operand is the correction table. -/
theorem V_corr (c : Dev nD) : V m c main_v111
    = corrPackedOf (corrT (m ((c : Thread nD τ).loc main_arg1)) (m ((c : Thread nD τ).loc main_arg2))) := by
  unfold_abbrev_sides
  simp only [List.flatten_cons, List.flatten_nil, List.append_nil, List.cons_append, List.nil_append]
  after_reads_simp
  rfl

set_option maxHeartbeats 4000000 in
/-- The kernel's fifth operand is the reciprocal norm, two image rows to a packed row. -/
theorem V_inv (c : Dev nD) : V m c main_v98
    = shapeCast S32x128 (invT (m ((c : Thread nD τ).loc main_arg1)) (m ((c : Thread nD τ).loc main_arg2)))
        shapeCasts_S64x64_S32x128 := by
  unfold_abbrev_sides
  simp only [List.flatten_cons, List.flatten_nil, List.append_nil, List.cons_append, List.nil_append]
  after_reads_simp
  rfl

end Cert.Kernel2Ideal.Tables
end
-- ==== Proof.Offsets.lean ====
module

public import proofs.«01_k».proof.Kernel2Ideal
public import Mathlib.Algebra.BigOperators.Fin
public import Mathlib.Tactic.FinCases

/-! The list of neighbours: every listed offset occurs once. -/

@[expose] public section

set_option maxRecDepth 16384

noncomputable section

namespace Cert.Kernel2Ideal.Offsets
open Cert.Kernel2Ideal

/-- How many rows down a listed neighbour lies, plus six. -/
def gy (k : Fin 133) : ℕ := (lit0 k + 6#32).toNat

/-- How many columns right a listed neighbour lies, plus six. -/
def gx (k : Fin 133) : ℕ := (lit1 k + 6#32).toNat

/-- The offsets of the list, each counted from minus six. -/
def Listed (a b : ℕ) : Prop :=
  ((1 ≤ a ∧ a ≤ 11) ∧ 1 ≤ b ∧ b ≤ 11) ∨ ((a ≤ 12) ∧ 5 ≤ b ∧ b ≤ 7) ∨ ((5 ≤ a ∧ a ≤ 7) ∧ b ≤ 12)

instance (a b : ℕ) : Decidable (Listed a b) := inferInstanceAs (Decidable (_ ∨ _ ∨ _))

theorem gy_le (k : Fin 133) : gy k ≤ 12 := by
  revert k; decide +kernel

theorem gx_le (k : Fin 133) : gx k ≤ 12 := by
  revert k; decide +kernel

/-- A listed neighbour's vertical offset is its count minus six. -/
theorem lit0_eq (k : Fin 133) : (lit0 k).toInt = (gy k : ℤ) - 6 := by
  revert k; decide +kernel

/-- A listed neighbour's horizontal offset is its count minus six. -/
theorem lit1_eq (k : Fin 133) : (lit1 k).toInt = (gx k : ℤ) - 6 := by
  revert k; decide +kernel

/-- No offset is listed twice. -/
theorem inj (k k' : Fin 133) : gy k = gy k' → gx k = gx k' → k = k' := by
  revert k k'; decide +kernel

/-- Every listed offset is in the list. -/
theorem listed_fin (a b : Fin 13) : Listed a b → ∃ k, gy k = a ∧ gx k = b := by
  revert a b; decide +kernel

theorem listed {a b : ℕ} (h : Listed a b) : ∃ k, gy k = a ∧ gx k = b := by
  have h' := h
  unfold Listed at h'
  exact listed_fin ⟨a, by omega⟩ ⟨b, by omega⟩ h

/-- A double sum of terms that vanish off the list, gathered neighbour by neighbour. -/
theorem sum_listed {M : Type} [AddCommMonoid M] (i j : Fin 64) (f : Fin 64 → Fin 64 → M)
    (hf : ∀ y x : Fin 64, (¬ ∃ k, (i : ℕ) + gy k = y + 6 ∧ (j : ℕ) + gx k = x + 6) → f y x = 0) :
    ∑ y, ∑ x, f y x = ∑ k : Fin 133,
      if h : (6 ≤ (i : ℕ) + gy k ∧ (i : ℕ) + gy k < 70) ∧ 6 ≤ (j : ℕ) + gx k ∧ (j : ℕ) + gx k < 70 then
        f ⟨(i : ℕ) + gy k - 6, by omega⟩ ⟨(j : ℕ) + gx k - 6, by omega⟩ else 0 := by
  have term (y x : Fin 64) : f y x
      = ∑ k : Fin 133, if (i : ℕ) + gy k = y + 6 ∧ (j : ℕ) + gx k = x + 6 then f y x else 0 := by
    by_cases h : ∃ k, (i : ℕ) + gy k = y + 6 ∧ (j : ℕ) + gx k = x + 6
    · obtain ⟨k, hk⟩ := h
      rw [Finset.sum_eq_single k, if_pos hk]
      · intro k' _ hne
        refine if_neg fun hk' => hne (inj k' k ?_ ?_) <;> omega
      · exact fun h => absurd (Finset.mem_univ _) h
    · rw [hf y x h]
      simp
  have one (k : Fin 133) : (∑ y : Fin 64, ∑ x : Fin 64, if (i : ℕ) + gy k = y + 6 ∧ (j : ℕ) + gx k = x + 6 then f y x else 0)
      = if h : (6 ≤ (i : ℕ) + gy k ∧ (i : ℕ) + gy k < 70) ∧ 6 ≤ (j : ℕ) + gx k ∧ (j : ℕ) + gx k < 70 then
        f ⟨(i : ℕ) + gy k - 6, by omega⟩ ⟨(j : ℕ) + gx k - 6, by omega⟩ else 0 := by
    by_cases h : (6 ≤ (i : ℕ) + gy k ∧ (i : ℕ) + gy k < 70) ∧ 6 ≤ (j : ℕ) + gx k ∧ (j : ℕ) + gx k < 70
    · rw [dif_pos h, Finset.sum_eq_single ⟨(i : ℕ) + gy k - 6, by omega⟩, Finset.sum_eq_single ⟨(j : ℕ) + gx k - 6, by omega⟩,
        if_pos]
      · exact ⟨by show _ = (i : ℕ) + gy k - 6 + 6; omega, by show _ = (j : ℕ) + gx k - 6 + 6; omega⟩
      · intro x _ hne
        exact if_neg fun hx => hne (Fin.ext (by show (x : ℕ) = (j : ℕ) + gx k - 6; omega))
      · exact fun h => absurd (Finset.mem_univ _) h
      · intro y _ hne
        refine Finset.sum_eq_zero fun x _ => if_neg fun hx => hne (Fin.ext (by show (y : ℕ) = (i : ℕ) + gy k - 6; omega))
      · exact fun h => absurd (Finset.mem_univ _) h
    · rw [dif_neg h]
      refine Finset.sum_eq_zero fun y _ => Finset.sum_eq_zero fun x _ => if_neg fun hx => h ?_
      have hy := y.isLt
      have hx' := x.isLt
      omega
  rw [Finset.sum_congr rfl fun y _ => Finset.sum_congr rfl fun x _ => term y x]
  rw [Finset.sum_congr rfl fun y _ => Finset.sum_comm, Finset.sum_comm]
  exact Finset.sum_congr rfl fun k _ => one k

end Cert.Kernel2Ideal.Offsets
end
-- ==== Proof.Rounded.lean ====
module

public import proofs.«01_k».proof.Proof.Equation
public import proofs.«01_k».proof.Proof.Offsets

/-! The clamped weights for given coordinates: the product of the two weights of the axes, plus a correction at the
listed neighbours alone. -/

@[expose] public section

set_option maxRecDepth 16384

noncomputable section

open Idealize.ShloMosaic Idealize.ShloMosaic.TcCoe Idealize.SL.Sem

namespace Cert.Gauss
open Cert.Kernel2Ideal.Offsets

/-- The rounded squared distance along one axis. -/
def sq2 (e b : Fin 64 → EReal) (i j : Fin 64) : EReal := (e i * e i + e j * e j) - ((2 : ℝ) : EReal) * (b i * b j)

theorem sq2_comm (e b : Fin 64 → EReal) (i j : Fin 64) : sq2 e b i j = sq2 e b j i := by
  unfold sq2; rw [add_comm (e i * e i), mul_comm (b i)]

/-- The weight of a squared distance. -/
def wt (s : EReal) : EReal := Ideal.exp (((-(1 / 2) : ℝ) : EReal) * s)

/-- What clamping a squared distance at zero changes of its weight. -/
def clampW (s : EReal) : EReal := if s < 0 then 1 - wt s else 0

theorem wt_top : wt ⊤ = 0 := by
  unfold wt
  rw [EReal.coe_mul_top_of_neg (by norm_num)]
  exact Ideal.exp_bot

theorem wt_coe (r : ℝ) : wt r = ((Real.exp (-(1 / 2) * r) : ℝ) : EReal) := by
  unfold wt
  rw [← EReal.coe_mul, Ideal.exp_coe]

/-- A squared distance is not minus infinity, so its weight is a real number. -/
theorem wt_real {s : EReal} (h : s ≠ ⊥) : ∃ r : ℝ, wt s = r := by
  induction s with
  | bot => exact absurd rfl h
  | top => exact ⟨0, wt_top⟩
  | coe r => exact ⟨_, wt_coe r⟩

theorem clampW_of_nonneg {s : EReal} (h : 0 ≤ s) : clampW s = 0 := if_neg (not_lt.mpr h)

theorem clampW_real {s : EReal} (h : s ≠ ⊥) : ∃ r : ℝ, clampW s = r := by
  unfold clampW
  split
  · obtain ⟨r, hr⟩ := wt_real h
    exact ⟨1 - r, by rw [hr, EReal.coe_sub]; rfl⟩
  · exact ⟨0, rfl⟩

/-- The weight of a clamped sum of two squared distances: the product of their weights plus the correction. -/
theorem wt_max {s t : EReal} (hs : s ≠ ⊥) (ht : t ≠ ⊥) : wt (max (s + t) 0) = wt s * wt t + clampW (s + t) := by
  induction s with
  | bot => exact absurd rfl hs
  | top =>
    rw [EReal.top_add_of_ne_bot ht, max_eq_left le_top, wt_top, zero_mul, clampW_of_nonneg le_top, add_zero]
  | coe r =>
    induction t with
    | bot => exact absurd rfl ht
    | top =>
      rw [EReal.coe_add_top, max_eq_left le_top, wt_top, mul_zero, clampW_of_nonneg le_top, add_zero]
    | coe u =>
      rw [← EReal.coe_add, wt_coe, wt_coe, ← EReal.coe_mul, ← Real.exp_add]
      by_cases h : r + u < 0
      · have h' : ((r + u : ℝ) : EReal) < 0 := EReal.coe_neg'.mpr h
        rw [max_eq_right h'.le, clampW, if_pos h', wt_coe, show (0 : EReal) = ((0 : ℝ) : EReal) from rfl, wt_coe,
          show (1 : EReal) = ((1 : ℝ) : EReal) from rfl, ← EReal.coe_sub, ← EReal.coe_add]
        refine congrArg (fun z : ℝ => (z : EReal)) ?_
        rw [show -(1 / 2) * r + -(1 / 2) * u = -(1 / 2) * (r + u) by ring]
        simp
      · have h' : (0 : EReal) ≤ ((r + u : ℝ) : EReal) := EReal.coe_nonneg.mpr (not_lt.mp h)
        rw [max_eq_left h', clampW_of_nonneg h', add_zero, wt_coe]
        refine congrArg (fun z : ℝ => ((Real.exp z : ℝ) : EReal)) ?_
        ring

/-- With real rounded coordinates no squared distance is minus infinity. -/
theorem sq2_ne_bot (e b : Fin 64 → EReal) (hb : ∀ i, ∃ r : ℝ, b i = r) (i j : Fin 64) : sq2 e b i j ≠ ⊥ := by
  obtain ⟨r, hr⟩ := hb i
  obtain ⟨u, hu⟩ := hb j
  have h (x : EReal) : 0 ≤ x * x := by
    rcases le_total 0 x with h | h
    · exact mul_nonneg h h
    · exact EReal.mul_nonneg_iff.mpr (Or.inr ⟨h, h⟩)
  unfold sq2
  rw [hr, hu, ← EReal.coe_mul, ← EReal.coe_mul, sub_eq_add_neg, ← EReal.coe_neg]
  refine EReal.add_ne_bot_iff.mpr ⟨?_, EReal.coe_ne_bot _⟩
  exact fun hbot => absurd (add_nonneg (h (e i)) (h (e j))) (by rw [hbot]; decide)

/-- The correction a listed neighbour brings, times what is read there: nothing off the image. -/
def nbrTerm (s : Fin 64 → Fin 64 → EReal) (X : Fin 64 → Fin 64 → EReal) (i j : Fin 64) (k : Fin 133) : EReal :=
  if h : (6 ≤ (i : ℕ) + gy k ∧ (i : ℕ) + gy k < 70) ∧ 6 ≤ (j : ℕ) + gx k ∧ (j : ℕ) + gx k < 70 then
    clampW (s i ⟨(i : ℕ) + gy k - 6, by omega⟩ + s j ⟨(j : ℕ) + gx k - 6, by omega⟩)
      * X ⟨(i : ℕ) + gy k - 6, by omega⟩ ⟨(j : ℕ) + gx k - 6, by omega⟩ else 0

/-- The clamped dense sum is the two passes plus the listed neighbours' corrections. -/
theorem dense_eq (s : Fin 64 → Fin 64 → EReal) (hs : ∀ i j, s i j ≠ ⊥) (comm : ∀ i j, s i j = s j i)
    (hn : ∀ i y j x : Fin 64, (¬ ∃ k, (i : ℕ) + gy k = y + 6 ∧ (j : ℕ) + gx k = x + 6) → 0 ≤ s i y + s j x)
    (R : Fin 64 → Fin 64 → ℝ) (i j : Fin 64) :
    ∑ y, ∑ x, wt (max (s i y + s j x) 0) * (R y x : EReal)
      = twoPass (fun a b => wt (s a b)) (fun y x => (R y x : EReal)) i j + ∑ k, nbrTerm s (fun y x => (R y x : EReal)) i j k := by
  choose G hG using fun a b => wt_real (hs a b)
  have hG' (a b) : G a b = G b a := by
    have := hG a b
    rw [comm, hG b a] at this
    exact (EReal.coe_injective this).symm
  choose C hC using fun y x => clampW_real (s := s i y + s j x) (EReal.add_ne_bot_iff.mpr ⟨hs i y, hs j x⟩)
  have first : twoPass (fun a b => wt (s a b)) (fun y x => (R y x : EReal)) i j
      = ∑ y, ∑ x, ((G i y * G j x * R y x : ℝ) : EReal) := by
    unfold twoPass rowPass
    simp only [hG, ← EReal.coe_mul, ← coe_sum]
    refine congrArg (fun z : ℝ => (z : EReal)) (Finset.sum_congr rfl fun y _ => ?_)
    rw [Finset.mul_sum]
    refine Finset.sum_congr rfl fun x _ => ?_
    rw [hG' x j]
    ring
  have second : ∑ k, nbrTerm s (fun y x => (R y x : EReal)) i j k
      = ∑ y, ∑ x, clampW (s i y + s j x) * (R y x : EReal) :=
    (sum_listed i j (fun y x => clampW (s i y + s j x) * (R y x : EReal))
      (fun y x h => by rw [clampW_of_nonneg (hn i y j x h), zero_mul])).symm
  rw [first, second, ← Finset.sum_add_distrib]
  refine Finset.sum_congr rfl fun y _ => ?_
  rw [← Finset.sum_add_distrib]
  refine Finset.sum_congr rfl fun x _ => ?_
  rw [wt_max (hs i y) (hs j x), hG, hG, hC, ← EReal.coe_mul, ← EReal.coe_add, ← EReal.coe_mul, ← EReal.coe_mul,
    ← EReal.coe_add]
  refine congrArg (fun z : ℝ => (z : EReal)) ?_
  ring

/-- The two passes over an image of ones are the product of the two row sums. -/
theorem twoPass_one (s : Fin 64 → Fin 64 → EReal) (hs : ∀ i j, s i j ≠ ⊥) (comm : ∀ i j, s i j = s j i) (i j : Fin 64) :
    twoPass (fun a b => wt (s a b)) (fun _ _ => ((1 : ℝ) : EReal)) i j = (∑ a, wt (s i a)) * ∑ b, wt (s j b) := by
  choose G hG using fun a b => wt_real (hs a b)
  have hG' (a b) : G a b = G b a := by
    have := hG a b
    rw [comm, hG b a] at this
    exact (EReal.coe_injective this).symm
  unfold twoPass rowPass
  simp only [hG, ← EReal.coe_mul, ← coe_sum]
  refine congrArg (fun z : ℝ => (z : EReal)) ?_
  rw [Finset.sum_mul]
  refine Finset.sum_congr rfl fun a _ => congrArg _ (Finset.sum_congr rfl fun b _ => ?_)
  rw [hG' b j, one_mul]

end Cert.Gauss
end
-- ==== Proof.Entries2.lean ====
module

public import proofs.«01_k».proof.Proof.Tables2
public import proofs.«01_k».proof.Proof.Rounded

/-! The entries of the second call's tables. -/

@[expose] public section

set_option maxRecDepth 16384

noncomputable section

open Idealize.ShloMosaic Idealize.ShloMosaic.TcCoe Idealize.SL.Sem

namespace Cert.Kernel2Ideal.Tables
open Cert.Kernel2Ideal Cert.Kernel2Ideal.Gen Cert.Gauss Cert.Kernel2Ideal.Offsets
open Cert.KernelIdeal.Tables (nbrV distOf corrOf corrPackedOf invOf gb2Of geoOf)

/-- The entries of a list. -/
def ent (x : FVec Ideal S64 .f32) (i : Fin 64) : EReal := x (ix1 i)

/-- The one-dimensional table holds the weights of the rounded squared distances. -/
theorem gbOf_at (e b : FVec Ideal S64 .f32) (i j : Fin 64) : gbOf e b (ix2 i j) = wt (sq2 (ent e) (ent b) i j) := by
  pointwise [gbOf, colOf, rowOf]
  rw [lit_two, lit_neg_half]
  rfl

/-- The coordinate of a neighbour, as a signed number. -/
theorem nbr_toInt (d : IVec S133 32) (k : Fin 133) (g : ℕ) (hg : g ≤ 12) (hd : (d (ix1 k)).toInt = (g : ℤ) - 6) (j : Fin 64) :
    (nbrV d (ix2 k j)).toInt = (j : ℤ) + g - 6 := by
  have h : nbrV d (ix2 k j) = BitVec.ofNat 32 j + d (ix1 k) := by
    pointwise [nbrV]
    rfl
  have hj := j.isLt
  rw [h, BitVec.toInt_add, hd, BitVec.toInt_ofNat']
  have e : ((j : ℕ) : ℤ).bmod (2 ^ 32) = j := by rw [Int.bmod_eq_of_le] <;> omega
  rw [e, Int.bmod_eq_of_le] <;> omega

/-- Where a list is read for a neighbour in the image. -/
theorem near_at (d : IVec S133 32) (k : Fin 133) (g : ℕ) (hg : g ≤ 12) (hd : (d (ix1 k)).toInt = (g : ℤ) - 6) (j : Fin 64)
    (h : 6 ≤ (j : ℕ) + g ∧ (j : ℕ) + g < 70) : (nearV d (ix3 k j 0)).toInt = (j : ℤ) + g - 6 := by
  have hn := nbr_toInt d k g hg hd j
  have e : nearV d (ix3 k j 0) = IntOp.minsi 63#32 (IntOp.maxsi 0#32 (nbrV d (ix2 k j))) := by
    pointwise [nearV]
  have h1 : IntOp.maxsi 0#32 (nbrV d (ix2 k j)) = nbrV d (ix2 k j) := by
    unfold IntOp.maxsi
    rw [if_neg]
    rw [BitVec.slt, hn, decide_eq_true_eq]
    exact not_lt.mpr (by show (0 : ℤ) ≤ _; omega)
  have h2 : IntOp.minsi 63#32 (nbrV d (ix2 k j)) = nbrV d (ix2 k j) := by
    unfold IntOp.minsi
    rw [if_neg]
    rw [BitVec.slt, hn, decide_eq_true_eq]
    exact not_lt.mpr (by show _ ≤ (63 : ℤ); omega)
  rw [e, h1, h2, hn]

/-- A list read at a neighbour in the image. -/
theorem pick_at (x : FVec Ideal S64 .f32) (d : IVec S133 32) (k : Fin 133) (g : ℕ) (hg : g ≤ 12)
    (hd : (d (ix1 k)).toInt = (g : ℤ) - 6) (j : Fin 64) (h : 6 ≤ (j : ℕ) + g ∧ (j : ℕ) + g < 70) :
    pickOf x d (ix2 k j) = ent x ⟨(j : ℕ) + g - 6, by omega⟩ := by
  refine (ValueIdx.gather_take_apply (N := 64) (R := 133) (C := 64) (by decide) gather_S64_S133x64x1_S133x64_n_0_n_n_0_2_1_wf
    x (nearV d) (ix2 k j)).trans ?_
  have e : (ValueIdx.takeIdx (R := 133) (C := 64) (ix2 k j)) = ix3 k j 0 := by
    funext a; fin_cases a <;> rfl
  refine congrArg x (congrArg ix1 (Fin.ext ?_))
  show min (nearV d (ValueIdx.takeIdx (R := 133) (C := 64) (ix2 k j))).toInt.toNat (64 - 1) = (j : ℕ) + g - 6
  rw [e, near_at d k g hg hd j h]
  omega

/-- The rounded squared distance along one axis to a neighbour, infinite off the image. -/
theorem lineOf_at (e b : FVec Ideal S64 .f32) (d : IVec S133 32) (k : Fin 133) (g : ℕ) (hg : g ≤ 12)
    (hd : (d (ix1 k)).toInt = (g : ℤ) - 6) (j : Fin 64) : lineOf e b d (ix2 k j)
      = if h : 6 ≤ (j : ℕ) + g ∧ (j : ℕ) + g < 70 then sq2 (ent e) (ent b) j ⟨(j : ℕ) + g - 6, by omega⟩ else ⊤ := by
  have hn := nbr_toInt d k g hg hd j
  have e0 : lineOf e b d (ix2 k j) = Scalar.select
      (IntOp.andi (IntOp.cmpi .sge (nbrV d (ix2 k j)) 0#32) (IntOp.cmpi .slt (nbrV d (ix2 k j)) 64#32))
      ((ent e j * ent e j + pickOf e d (ix2 k j) * pickOf e d (ix2 k j))
        - ((2 : ℝ) : EReal) * (ent b j * pickOf b d (ix2 k j))) (⊤ : EReal) := by
    rw [← lit_two, ← lit_inf]
    pointwise [lineOf, rowOf]
    rfl
  rw [e0, show IntOp.cmpi .sge (nbrV d (ix2 k j)) 0#32
      = BitVec.ofBool (decide ((0#32 : BitVec 32).toInt ≤ (nbrV d (ix2 k j)).toInt)) from rfl,
    show IntOp.cmpi .slt (nbrV d (ix2 k j)) 64#32
      = BitVec.ofBool (decide ((nbrV d (ix2 k j)).toInt < (64#32 : BitVec 32).toInt)) from rfl, hn]
  by_cases h : 6 ≤ (j : ℕ) + g ∧ (j : ℕ) + g < 70
  · rw [dif_pos h, pick_at e d k g hg hd j h, pick_at b d k g hg hd j h, decide_eq_true (show (0#32 : BitVec 32).toInt ≤ (j : ℤ) + g - 6 by show (0 : ℤ) ≤ _; omega),
      decide_eq_true (show (j : ℤ) + g - 6 < (64#32 : BitVec 32).toInt by show _ < (64 : ℤ); omega)]
    rfl
  · rw [dif_neg h]
    have hz : IntOp.andi (BitVec.ofBool (decide ((0#32 : BitVec 32).toInt ≤ (j : ℤ) + g - 6)))
        (BitVec.ofBool (decide ((j : ℤ) + g - 6 < (64#32 : BitVec 32).toInt))) = 0#1 := by
      by_cases h0 : 6 ≤ (j : ℕ) + g
      · rw [decide_eq_false (show ¬ (j : ℤ) + g - 6 < (64#32 : BitVec 32).toInt by show ¬ _ < (64 : ℤ); omega)]
        cases decide ((0#32 : BitVec 32).toInt ≤ (j : ℤ) + g - 6) <;> rfl
      · rw [decide_eq_false (show ¬ (0#32 : BitVec 32).toInt ≤ (j : ℤ) + g - 6 by show ¬ (0 : ℤ) ≤ _; omega)]
        cases decide ((j : ℤ) + g - 6 < (64#32 : BitVec 32).toInt) <;> rfl
    rw [hz]
    rfl

/-- The correction of a listed neighbour: what clamping changes of its weight, nothing off the image. -/
theorem corrT_at (e b : FVec Ideal S64 .f32) (hs : ∀ i j, sq2 (ent e) (ent b) i j ≠ ⊥) (k : Fin 133) (i j : Fin 64) :
    corrT e b (ix3 k i j)
      = if h : (6 ≤ (i : ℕ) + gy k ∧ (i : ℕ) + gy k < 70) ∧ 6 ≤ (j : ℕ) + gx k ∧ (j : ℕ) + gx k < 70 then
          clampW (sq2 (ent e) (ent b) i ⟨(i : ℕ) + gy k - 6, by omega⟩
            + sq2 (ent e) (ent b) j ⟨(j : ℕ) + gx k - 6, by omega⟩) else 0 := by
  have hy : (dyV (ix1 k)).toInt = (gy k : ℤ) - 6 := by
    rw [← lit0_eq k]
    exact congrArg (fun z => (lit0 z).toInt) (Fin.ext (Shape.rowMajor_val_one (ix1 k)))
  have hx : (dxV (ix1 k)).toInt = (gx k : ℤ) - 6 := by
    rw [← lit1_eq k]
    exact congrArg (fun z => (lit1 z).toInt) (Fin.ext (Shape.rowMajor_val_one (ix1 k)))
  have e0 : corrT e b (ix3 k i j) = clampW (lineOf e b dyV (ix2 k i) + lineOf e b dxV (ix2 k j)) := by
    rw [corrT, Cert.KernelIdeal.Tables.corrOf_at, Cert.KernelIdeal.Tables.dist_at]
    rfl
  rw [e0, lineOf_at e b dyV k (gy k) (gy_le k) hy, lineOf_at e b dxV k (gx k) (gx_le k) hx]
  by_cases h1 : 6 ≤ (i : ℕ) + gy k ∧ (i : ℕ) + gy k < 70
  · rw [dif_pos h1]
    by_cases h2 : 6 ≤ (j : ℕ) + gx k ∧ (j : ℕ) + gx k < 70
    · rw [dif_pos h2]
      have h : (6 ≤ (i : ℕ) + gy k ∧ (i : ℕ) + gy k < 70) ∧ 6 ≤ (j : ℕ) + gx k ∧ (j : ℕ) + gx k < 70 := ⟨h1, h2⟩
      rw [dif_pos h]
    · have h : ¬ ((6 ≤ (i : ℕ) + gy k ∧ (i : ℕ) + gy k < 70) ∧ 6 ≤ (j : ℕ) + gx k ∧ (j : ℕ) + gx k < 70) := fun h => h2 h.2
      rw [dif_neg h2, dif_neg h, EReal.add_top_of_ne_bot (hs _ _)]
      exact clampW_of_nonneg le_top
  · have h : ¬ ((6 ≤ (i : ℕ) + gy k ∧ (i : ℕ) + gy k < 70) ∧ 6 ≤ (j : ℕ) + gx k ∧ (j : ℕ) + gx k < 70) := fun h => h1 h.1
    rw [dif_neg h1, dif_neg h]
    refine (congrArg clampW (EReal.top_add_of_ne_bot ?_)).trans (clampW_of_nonneg le_top)
    split
    · exact hs _ _
    · exact top_ne_bot

/-- The reciprocal norm: one over the two row sums' product plus the corrections plus the small constant. -/
theorem invT_at (e b : FVec Ideal S64 .f32) (i j : Fin 64) : invT e b (ix2 i j)
    = Ideal.div 1 ((∑ a : Fin 64, wt (sq2 (ent e) (ent b) i a)) * (∑ a : Fin 64, wt (sq2 (ent e) (ent b) j a))
        + ∑ k : Fin 133, corrT e b (ix3 k i j) + Ideal.ofBits .f32 0x25800000#32) := by
  rw [invT, Cert.KernelIdeal.Tables.invOf_at]
  simp only [gbOf_at]

end Cert.Kernel2Ideal.Tables
end
-- ==== Proof.Taps.lean ====
module

public import proofs.«01_k».proof.Proof.Gen.Kernel2Ideal.Frame
public import Idealize.ShloMosaic.Lib.Pipeline.ValueKit
public import Idealize.ShloMosaic.Lib.Pointwise

/-! What one run of the kernel body leaves in its output block for any correction table: the separable filter plus,
for every listed neighbour, its correction times the input read back shifted out of the scratch, all times the
reciprocal norm. -/

@[expose] public section

set_option maxRecDepth 16384

noncomputable section

open Idealize.ShloMosaic Idealize.ShloMosaic.TcCoe Idealize.SL.Sem

namespace Cert.Kernel2Ideal.Taps
open Cert.Kernel2Ideal Cert.Kernel2Ideal.Gen

/-- The separable filter of one block, in the kernel's own operations. -/
def sepV (x0 : Vec Ideal S7x32x128 .f32) (x1 : Vec Ideal S128x128 .f32) (x2 : Vec Ideal S64x64 .f32) :
    FVec Ideal S7x32x128 .f32 :=
  k0_pay10 (k0_pay2 x0 x1) k0_pay3 (k0_pay4 x2) (k0_pay5 x0 x1 x2) (k0_pay6 x0 x1 x2) (k0_pay7 x0 x1 x2)
    (k0_pay8 x0 x1 x2) (k0_pay9 x0 x1 x2)

/-- What the scratch holds once the body has filled it: slot by slot the block rotated along its lanes, with three
zero rows above and below. -/
def scr (v : FVec Ideal S7x32x128 .f32) : Vec Ideal S26x7x38x128 .f32 := fun y =>
  if h : 3 ≤ (y 2).val ∧ (y 2).val < 35 then
    v (ix3 (y 1) ⟨(y 2).val - 3, by omega⟩
      ⟨((y 3).val + (y 0).val / 2 + 122 + 64 * ((y 0).val % 2)) % 128, by omega⟩)
  else (0 : EReal)

/-- Outside the block's rows the scratch is zero. -/
theorem scr_zero (v : FVec Ideal S7x32x128 .f32) (y : S26x7x38x128.Idx) (h : ¬ (3 ≤ (y 2 : ℕ) ∧ (y 2 : ℕ) < 35)) :
    scr v y = (0 : EReal) := dif_neg h

/-- In the block's rows the scratch is the block with its lanes rotated. -/
theorem scr_mid (v : FVec Ideal S7x32x128 .f32) (y : S26x7x38x128.Idx) (c : Fin 7) (r : Fin 32) (l : Fin 128)
    (h1 : (y 1 : ℕ) = c) (h2 : (y 2 : ℕ) = (r : ℕ) + 3)
    (h3 : ((y 3 : ℕ) + (y 0 : ℕ) / 2 + 122 + 64 * ((y 0 : ℕ) % 2)) % 128 = l) : scr v y = v (ix3 c r l) := by
  have hr := r.isLt
  refine (dif_pos ⟨by omega, by omega⟩).trans (congrArg v ?_)
  have e1 : y 1 = c := Fin.ext h1
  have e2 : (⟨(y 2 : ℕ) - 3, by omega⟩ : Fin 32) = r := Fin.ext (by show (y 2 : ℕ) - 3 = r; omega)
  have e3 : (⟨((y 3 : ℕ) + (y 0 : ℕ) / 2 + 122 + 64 * ((y 0 : ℕ) % 2)) % 128, by omega⟩ : Fin 128) = l := Fin.ext h3
  exact (congrArg (fun z => ix3 z _ _) e1).trans
    ((congrArg (fun z => ix3 c z _) e2).trans (congrArg (fun z => ix3 c r z) e3))

/-- A slot's three zero rows fit from row 0. -/
theorem inb_top (s : Fin 26) : ∀ a, (![(s : ℕ), 0, 0, 0] : Fin 4 → ℕ) a + S1x7x3x128.size a ≤ S26x7x38x128.size a := by
  intro a; fin_cases a <;> simp [Shape.size] <;> omega

/-- A slot's three zero rows fit from row 35. -/
theorem inb_bot (s : Fin 26) : ∀ a, (![(s : ℕ), 0, 35, 0] : Fin 4 → ℕ) a + S1x7x3x128.size a ≤ S26x7x38x128.size a := by
  intro a; fin_cases a <;> simp [Shape.size] <;> omega

/-- A slot's block fits from row 3. -/
theorem inb_mid (s : Fin 26) : ∀ a, (![(s : ℕ), 0, 3, 0] : Fin 4 → ℕ) a + S1x7x32x128.size a ≤ S26x7x38x128.size a := by
  intro a; fin_cases a <;> simp [Shape.size] <;> omega

/-- The stores of one slot, last first, given how far its block is rotated. -/
def slotPieces (v : FVec Ideal S7x32x128 .f32) (t : Fin 26 × BitVec 32) :
    List (View.Piece (Elt Ideal) S26x7x38x128 .f32) :=
  [⟨Rect.unit ![(t.1 : ℕ), 0, 35, 0] S1x7x3x128.size (inb_bot t.1),
      shapeCast S1x7x3x128 (k0_pay11 (F := Ideal)) shapeCasts_S7x3x128_S1x7x3x128⟩,
   ⟨Rect.unit ![(t.1 : ℕ), 0, 3, 0] S1x7x32x128.size (inb_mid t.1),
      shapeCast S1x7x32x128 (dynamicRotate 2 t.2 none v rotates_S7x32x128_d2) shapeCasts_S7x32x128_S1x7x32x128⟩,
   ⟨Rect.unit ![(t.1 : ℕ), 0, 0, 0] S1x7x3x128.size (inb_top t.1),
      shapeCast S1x7x3x128 (k0_pay11 (F := Ideal)) shapeCasts_S7x3x128_S1x7x3x128⟩]

/-- The slots with their rotations in the order of the list of stores, last first. -/
def slots : List (Fin 26 × BitVec 32) :=
  [(⟨25, by decide⟩, 58#32), (⟨24, by decide⟩, 122#32), (⟨23, by decide⟩, 59#32), (⟨22, by decide⟩, 123#32),
   (⟨21, by decide⟩, 60#32), (⟨20, by decide⟩, 124#32), (⟨19, by decide⟩, 61#32), (⟨18, by decide⟩, 125#32),
   (⟨17, by decide⟩, 62#32), (⟨16, by decide⟩, 126#32), (⟨15, by decide⟩, 63#32), (⟨14, by decide⟩, 127#32),
   (⟨13, by decide⟩, 64#32), (⟨12, by decide⟩, 0#32), (⟨11, by decide⟩, 65#32), (⟨10, by decide⟩, 1#32),
   (⟨9, by decide⟩, 66#32), (⟨8, by decide⟩, 2#32), (⟨7, by decide⟩, 67#32), (⟨6, by decide⟩, 3#32),
   (⟨5, by decide⟩, 68#32), (⟨4, by decide⟩, 4#32), (⟨3, by decide⟩, 69#32), (⟨2, by decide⟩, 5#32),
   (⟨1, by decide⟩, 70#32), (⟨0, by decide⟩, 6#32)]

/-- Every slot is in the list, with its rotation. -/
theorem mem_slots (s : Fin 26) : (s, BitVec.ofNat 32 ((134 - (s : ℕ) / 2 + 64 * ((s : ℕ) % 2)) % 128)) ∈ slots := by
  revert s; decide

/-- Every slot in the list has its rotation. -/
theorem rot_slots : ∀ t ∈ slots, t.2.toNat = (134 - (t.1 : ℕ) / 2 + 64 * ((t.1 : ℕ) % 2)) % 128 := by decide

/-- The body's stores into the scratch are the slots' stores. -/
theorem pieces_eq (c : Dev nD) (arg1 : Memref sig .tc .vmem S7x32x128 .f32) (harg1 : arg1.IsWhole)
    (x0 : Vec Ideal S7x32x128 .f32) : kernelRun0_A.sl.HS0_78 c arg1 harg1 x0
      = slots.flatMap (slotPieces (kernelRun0_A.sl.r c arg1 harg1 x0)) := by
  unfold kernelRun0_A.sl.HS0_78
  simp only [slots, slotPieces, List.flatMap_cons, List.flatMap_nil, List.cons_append, List.nil_append]
  dsimp only [
    kernelRun0_A.sl.v84, kernelRun0_A.sl.v81, kernelRun0_A.sl.v91, kernelRun0_A.sl.v101,
    kernelRun0_A.sl.v111, kernelRun0_A.sl.v121, kernelRun0_A.sl.v131, kernelRun0_A.sl.v141, kernelRun0_A.sl.v151,
    kernelRun0_A.sl.v161, kernelRun0_A.sl.v171, kernelRun0_A.sl.v181, kernelRun0_A.sl.v191, kernelRun0_A.sl.v201,
    kernelRun0_A.sl.v211, kernelRun0_A.sl.v221, kernelRun0_A.sl.v231, kernelRun0_A.sl.v241, kernelRun0_A.sl.v251,
    kernelRun0_A.sl.v261, kernelRun0_A.sl.v271, kernelRun0_A.sl.v281, kernelRun0_A.sl.v291, kernelRun0_A.sl.v301,
    k0_pay12, k0_pay13, k0_pay14, k0_pay15, k0_pay16, k0_pay17,
    k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39,
    k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83,
    k0_pay84, k0_pay85, k0_pay86, k0_pay87, k0_pay88, k0_pay89, k0_pay90, k0_pay91, k0_pay92, k0_pay93]
  rfl

/-- The block the slots hold is the block's contents. -/
theorem block_eq (c : Dev nD) (arg1 : Memref sig .tc .vmem S7x32x128 .f32) (harg1 : arg1.IsWhole)
    (x0 : Vec Ideal S7x32x128 .f32) : kernelRun0_A.sl.r c arg1 harg1 x0 = x0 := by
  unfold kernelRun0_A.sl.r k0_pay1
  dsimp only
  rw [View.readAt_eq_ld, Memref.IsWhole.read_unread, shapeCast_self]
  simp (disch := decide) only [View.ld_unit_lit']

/-- The zero rows hold zero. -/
theorem zero_rows (x : S1x7x3x128.Idx) :
    shapeCast S1x7x3x128 (k0_pay11 (F := Ideal)) shapeCasts_S7x3x128_S1x7x3x128 x = (0 : EReal) := by
  pointwise [k0_pay11]

/-- A slot's block at an index: the input rotated along its lanes. -/
theorem mid_rows (v : FVec Ideal S7x32x128 .f32) (n : BitVec 32) (a : Fin 1) (c : Fin 7) (r : Fin 32) (l : Fin 128) :
    shapeCast S1x7x32x128 (dynamicRotate 2 n none v rotates_S7x32x128_d2) shapeCasts_S7x32x128_S1x7x32x128 (ix4 a c r l)
      = v (ix3 c r ⟨((l : ℕ) + 128 - n.toNat % 128) % 128, by omega⟩) := by
  pointwise

/-- Where a lane of a slot comes from, counted both ways. -/
theorem lane_nat (s l a : ℕ) (hs : s < 26) (hl : l < 128) (ha : a < 1) :
    ((0 + l) + (s + a) / 2 + 122 + 64 * ((s + a) % 2)) % 128
      = (l + 128 - (134 - s / 2 + 64 * (s % 2)) % 128 % 128) % 128 := by
  have h : a = 0 := by omega
  subst h
  rcases Nat.mod_two_eq_zero_or_one s with e | e
  · simp only [Nat.add_zero, e]
    omega
  · simp only [Nat.add_zero, e]
    omega

/-- Every store of a slot leaves what the scratch is said to hold. -/
theorem slot_agrees (v : FVec Ideal S7x32x128 .f32) (t : Fin 26 × BitVec 32)
    (ht : t.2.toNat = (134 - (t.1 : ℕ) / 2 + 64 * ((t.1 : ℕ) % 2)) % 128) :
    ∀ p ∈ slotPieces v t, ∀ x : p.1.shape.Idx, p.2 x = scr v (p.1.emb x) := by
  obtain ⟨s, n⟩ := t
  dsimp only at ht
  intro p hp
  simp only [slotPieces, List.mem_cons, List.not_mem_nil, or_false] at hp
  rcases hp with rfl | rfl | rfl
  · intro x
    have h : (((Rect.unit (s := S26x7x38x128) ![(s : ℕ), 0, 35, 0] S1x7x3x128.size (inb_bot s)).emb x) 2 : ℕ)
        = 35 + (x 2 : ℕ) := Rect.idx_unit_val (s := S26x7x38x128) _ _ (inb_bot s) x 2
    have hn : ¬ (3 ≤ ((Rect.unit (s := S26x7x38x128) ![(s : ℕ), 0, 35, 0] S1x7x3x128.size (inb_bot s)).emb x 2 : ℕ)
        ∧ ((Rect.unit (s := S26x7x38x128) ![(s : ℕ), 0, 35, 0] S1x7x3x128.size (inb_bot s)).emb x 2 : ℕ) < 35) := by
      rw [h]
      omega
    exact (zero_rows x).trans (scr_zero v _ hn).symm
  · intro x
    obtain ⟨a, c, r, l, rfl⟩ : ∃ (a : Fin 1) (c : Fin 7) (r : Fin 32) (l : Fin 128), x = ix4 a c r l :=
      ⟨x 0, x 1, x 2, x 3, by funext a; fin_cases a <;> rfl⟩
    have h0 : (((Rect.unit (s := S26x7x38x128) ![(s : ℕ), 0, 3, 0] S1x7x32x128.size (inb_mid s)).emb (ix4 a c r l)) 0 : ℕ)
        = s + (a : ℕ) := Rect.idx_unit_val (s := S26x7x38x128) _ _ (inb_mid s) (ix4 a c r l) 0
    have h1 : (((Rect.unit (s := S26x7x38x128) ![(s : ℕ), 0, 3, 0] S1x7x32x128.size (inb_mid s)).emb (ix4 a c r l)) 1 : ℕ)
        = 0 + (c : ℕ) := Rect.idx_unit_val (s := S26x7x38x128) _ _ (inb_mid s) (ix4 a c r l) 1
    have h2 : (((Rect.unit (s := S26x7x38x128) ![(s : ℕ), 0, 3, 0] S1x7x32x128.size (inb_mid s)).emb (ix4 a c r l)) 2 : ℕ)
        = 3 + (r : ℕ) := Rect.idx_unit_val (s := S26x7x38x128) _ _ (inb_mid s) (ix4 a c r l) 2
    have h3 : (((Rect.unit (s := S26x7x38x128) ![(s : ℕ), 0, 3, 0] S1x7x32x128.size (inb_mid s)).emb (ix4 a c r l)) 3 : ℕ)
        = 0 + (l : ℕ) := Rect.idx_unit_val (s := S26x7x38x128) _ _ (inb_mid s) (ix4 a c r l) 3
    refine (mid_rows v n a c r l).trans (scr_mid v _ c r _ ?_ ?_ ?_).symm
    · exact h1.trans (Nat.zero_add _)
    · exact h2.trans (Nat.add_comm _ _)
    · have hs := s.isLt
      have hl := l.isLt
      have ha := a.isLt
      have e : (((Rect.unit (s := S26x7x38x128) ![(s : ℕ), 0, 3, 0] S1x7x32x128.size (inb_mid s)).emb (ix4 a c r l) 3 : ℕ)
          + ((Rect.unit (s := S26x7x38x128) ![(s : ℕ), 0, 3, 0] S1x7x32x128.size (inb_mid s)).emb (ix4 a c r l) 0 : ℕ) / 2
          + 122 + 64 * (((Rect.unit (s := S26x7x38x128) ![(s : ℕ), 0, 3, 0] S1x7x32x128.size (inb_mid s)).emb (ix4 a c r l) 0 : ℕ) % 2)) % 128
          = ((l : ℕ) + 128 - n.toNat % 128) % 128 := by
        rw [h0, h3, ht]
        exact lane_nat s l a hs hl ha
      exact e
  · intro x
    have h : (((Rect.unit (s := S26x7x38x128) ![(s : ℕ), 0, 0, 0] S1x7x3x128.size (inb_top s)).emb x) 2 : ℕ)
        = 0 + (x 2 : ℕ) := Rect.idx_unit_val (s := S26x7x38x128) _ _ (inb_top s) x 2
    have hx : (x 2 : ℕ) < 3 := (x 2).isLt
    have hn : ¬ (3 ≤ ((Rect.unit (s := S26x7x38x128) ![(s : ℕ), 0, 0, 0] S1x7x3x128.size (inb_top s)).emb x 2 : ℕ)
        ∧ ((Rect.unit (s := S26x7x38x128) ![(s : ℕ), 0, 0, 0] S1x7x3x128.size (inb_top s)).emb x 2 : ℕ) < 35) := by
      rw [h]
      omega
    exact (zero_rows x).trans (scr_zero v _ hn).symm

/-- Every cell of a slot is in one of its stores. -/
theorem slot_covers (v : FVec Ideal S7x32x128 .f32) (n : BitVec 32) (y : S26x7x38x128.Idx) :
    ∃ p ∈ slotPieces v (y 0, n), y ∈ p.1.set := by
  have h1 : (y 1 : ℕ) < 7 := (y 1).isLt
  have h2 : (y 2 : ℕ) < 38 := (y 2).isLt
  have h3 : (y 3 : ℕ) < 128 := (y 3).isLt
  by_cases ha : (y 2 : ℕ) < 3
  · refine ⟨_, List.mem_cons_of_mem _ (List.mem_cons_of_mem _ (List.mem_cons_self ..)), (Rect.mem_set_unit (s := S26x7x38x128) (inb := inb_top (y 0))).mpr ?_⟩
    intro a
    fin_cases a
    · exact (⟨le_rfl, Nat.lt_succ_self _⟩ : (y 0 : ℕ) ≤ y 0 ∧ (y 0 : ℕ) < y 0 + 1)
    · exact (⟨by omega, by omega⟩ : 0 ≤ (y 1 : ℕ) ∧ (y 1 : ℕ) < 0 + 7)
    · exact (⟨by omega, by omega⟩ : 0 ≤ (y 2 : ℕ) ∧ (y 2 : ℕ) < 0 + 3)
    · exact (⟨by omega, by omega⟩ : 0 ≤ (y 3 : ℕ) ∧ (y 3 : ℕ) < 0 + 128)
  · by_cases hb : (y 2 : ℕ) < 35
    · refine ⟨_, List.mem_cons_of_mem _ (List.mem_cons_self ..), (Rect.mem_set_unit (s := S26x7x38x128) (inb := inb_mid (y 0))).mpr ?_⟩
      intro a
      fin_cases a
      · exact (⟨le_rfl, Nat.lt_succ_self _⟩ : (y 0 : ℕ) ≤ y 0 ∧ (y 0 : ℕ) < y 0 + 1)
      · exact (⟨by omega, by omega⟩ : 0 ≤ (y 1 : ℕ) ∧ (y 1 : ℕ) < 0 + 7)
      · exact (⟨by omega, by omega⟩ : 3 ≤ (y 2 : ℕ) ∧ (y 2 : ℕ) < 3 + 32)
      · exact (⟨by omega, by omega⟩ : 0 ≤ (y 3 : ℕ) ∧ (y 3 : ℕ) < 0 + 128)
    · refine ⟨_, List.mem_cons_self .., (Rect.mem_set_unit (s := S26x7x38x128) (inb := inb_bot (y 0))).mpr ?_⟩
      intro a
      fin_cases a
      · exact (⟨le_rfl, Nat.lt_succ_self _⟩ : (y 0 : ℕ) ≤ y 0 ∧ (y 0 : ℕ) < y 0 + 1)
      · exact (⟨by omega, by omega⟩ : 0 ≤ (y 1 : ℕ) ∧ (y 1 : ℕ) < 0 + 7)
      · exact (⟨by omega, by omega⟩ : 35 ≤ (y 2 : ℕ) ∧ (y 2 : ℕ) < 35 + 3)
      · exact (⟨by omega, by omega⟩ : 0 ≤ (y 3 : ℕ) ∧ (y 3 : ℕ) < 0 + 128)

/-- A plane of the correction table fits. -/
theorem inb_corr (k : Fin 133) : ∀ a, (![(k : ℕ), 0, 0] : Fin 3 → ℕ) a + S1x32x128.size a ≤ S133x32x128.size a := by
  intro a; fin_cases a <;> simp [Shape.size] <;> omega

/-- A shifted block fits. -/
theorem inb_row (s : Fin 26) (m : Fin 7) :
    ∀ a, (![(s : ℕ), 0, (m : ℕ), 0] : Fin 4 → ℕ) a + S1x7x32x128.size a ≤ S26x7x38x128.size a := by
  intro a; fin_cases a <;> simp [Shape.size] <;> omega

/-- One plane of the correction table, repeated over the channels. -/
def corrB (x3 : Vec Ideal S133x32x128 .bf16) (off : Fin 3 → ℕ) (inb : ∀ a, off a + S1x32x128.size a ≤ S133x32x128.size a) :
    FVec Ideal S7x32x128 .f32 :=
  broadcastTo S7x32x128 (shapeCast S1x32x128 (extf .f32 (shapeCast S32x128
    (View.ld x3 (Rect.unit off S1x32x128.size inb)) shapeCasts_S1x32x128_S32x128) bitsLt_bf16_f32)
    shapeCasts_S32x128_S1x32x128) broadcasts_S1x32x128_S7x32x128

/-- The kernel's load of one plane of the correction table is that. -/
theorem corrB_eq (arg4 : Memref sig .tc .vmem S133x32x128 .bf16) (h4 : arg4.IsWhole) (x3 : Vec Ideal S133x32x128 .bf16)
    (off : Fin S133x32x128.rank → ℕ) (inb : ∀ a, off a + S1x32x128.size a ≤ S133x32x128.size a) :
    broadcastTo S7x32x128 (shapeCast S1x32x128 (extf .f32 (shapeCast S32x128
      (View.readAt (Elt Ideal) arg4.view (Rect.unit off (no_index S1x32x128.size) inb).toLoadRect (h4.unread x3))
      shapeCasts_S1x32x128_S32x128) bitsLt_bf16_f32)
      shapeCasts_S32x128_S1x32x128) broadcasts_S1x32x128_S7x32x128 = corrB x3 off inb := by
  rw [View.readAt_eq_ld, Memref.IsWhole.read_unread]
  rfl

/-- One shifted block out of the scratch. -/
def rowB (x0 : Vec Ideal S7x32x128 .f32) (off : Fin 4 → ℕ)
    (inb : ∀ a, off a + S1x7x32x128.size a ≤ S26x7x38x128.size a) : FVec Ideal S7x32x128 .f32 :=
  shapeCast S7x32x128 (View.ld (scr x0) (Rect.unit off S1x7x32x128.size inb)) shapeCasts_S1x7x32x128_S7x32x128

/-- The kernel's load out of the filled scratch is that. -/
theorem rowB_eq (c : Dev nD) (arg1 : Memref sig .tc .vmem S7x32x128 .f32) (harg1 : arg1.IsWhole)
    (arg7 : Memref sig .tc .vmem S26x7x38x128 .f32) (x0 : Vec Ideal S7x32x128 .f32)
    (off : Fin S26x7x38x128.rank → ℕ) (inb : ∀ a, off a + S1x7x32x128.size a ≤ S26x7x38x128.size a) :
    shapeCast (α := Ideal .f32) (s := S1x7x32x128) S7x32x128 (View.readCov (κ := Proc.kind (Proc.tc : Proc τ))
      (Memref.view (κ := Proc.kind (Proc.tc : Proc τ)) arg7) (kernelRun0_A.sl.HS0_78 c arg1 harg1 x0)
      (Rect.unit off (no_index S1x7x32x128.size) inb).toLoadRect) shapeCasts_S1x7x32x128_S7x32x128 = rowB x0 off inb := by
  rw [View.readCov_eq_canon', pieces_eq, block_eq]
  refine congrArg (fun g => shapeCast S7x32x128 g shapeCasts_S1x7x32x128_S7x32x128) (funext fun j => ?_)
  refine View.canon_apply_of_pieces (scr x0) _ (fun p hp x => ?_) _ ?_
  · obtain ⟨t, ht, hs⟩ := List.mem_flatMap.mp hp
    exact slot_agrees x0 t (rot_slots t ht) p hs x
  · obtain ⟨p, hp, hy⟩ := slot_covers x0 _ ((Rect.unit off S1x7x32x128.size inb).toLoadRect.idx j)
    exact ⟨p, List.mem_flatMap.mpr ⟨_, mem_slots _, hp⟩, hy⟩

/-- The low lanes, repeated over the channels. -/
def lowB : IVec S7x32x128 1 :=
  broadcastTo S7x32x128 (shapeCast S1x32x128 (shapeCast S1x32x128 k0_pay3 shapeCasts_S32x128_S1x32x128)
    shapeCasts_S1x32x128_S1x32x128) broadcasts_S1x32x128_S7x32x128

/-- The kernel's lane mask is that. -/
theorem lowB_eq : broadcastTo S7x32x128 (shapeCast S1x32x128 (shapeCast S1x32x128 k0_pay3 shapeCasts_S32x128_S1x32x128)
    shapeCasts_S1x32x128_S1x32x128) broadcasts_S1x32x128_S7x32x128 = lowB := rfl

/-- One listed neighbour: its plane of the correction table, the slot it reads and the first row it reads there. An
even row offset reads one shifted block; an odd one reads one row further down in the high lanes. -/
inductive Tap
  | even (k : Fin 133) (s : Fin 26) (m : Fin 7)
  | odd (k : Fin 133) (s : Fin 26) (m : Fin 6)

/-- What one listed neighbour adds. -/
def Tap.add (x0 : Vec Ideal S7x32x128 .f32) (x3 : Vec Ideal S133x32x128 .bf16) (acc : FVec Ideal S7x32x128 .f32) :
    Tap → FVec Ideal S7x32x128 .f32
  | .even k s m => addf acc (mulf (corrB x3 ![(k : ℕ), 0, 0] (inb_corr k)) (rowB x0 ![(s : ℕ), 0, (m : ℕ), 0] (inb_row s m)))
  | .odd k s m => addf acc (mulf (corrB x3 ![(k : ℕ), 0, 0] (inb_corr k))
      (select lowB (rowB x0 ![(s : ℕ), 0, (m : ℕ), 0] (inb_row s ⟨m, by omega⟩))
        (rowB x0 ![(s : ℕ), 0, (m : ℕ) + 1, 0] (inb_row s ⟨m + 1, by omega⟩))))

/-- The listed neighbours in the kernel's order. -/
def taps : List Tap :=
  [.even ⟨0, by decide⟩ ⟨10, by decide⟩ ⟨0, by decide⟩, .even ⟨1, by decide⟩ ⟨12, by decide⟩ ⟨0, by decide⟩,
   .even ⟨2, by decide⟩ ⟨14, by decide⟩ ⟨0, by decide⟩, .odd ⟨3, by decide⟩ ⟨3, by decide⟩ ⟨0, by decide⟩,
   .odd ⟨4, by decide⟩ ⟨5, by decide⟩ ⟨0, by decide⟩, .odd ⟨5, by decide⟩ ⟨7, by decide⟩ ⟨0, by decide⟩,
   .odd ⟨6, by decide⟩ ⟨9, by decide⟩ ⟨0, by decide⟩, .odd ⟨7, by decide⟩ ⟨11, by decide⟩ ⟨0, by decide⟩,
   .odd ⟨8, by decide⟩ ⟨13, by decide⟩ ⟨0, by decide⟩, .odd ⟨9, by decide⟩ ⟨15, by decide⟩ ⟨0, by decide⟩,
   .odd ⟨10, by decide⟩ ⟨17, by decide⟩ ⟨0, by decide⟩, .odd ⟨11, by decide⟩ ⟨19, by decide⟩ ⟨0, by decide⟩,
   .odd ⟨12, by decide⟩ ⟨21, by decide⟩ ⟨0, by decide⟩, .odd ⟨13, by decide⟩ ⟨23, by decide⟩ ⟨0, by decide⟩,
   .even ⟨14, by decide⟩ ⟨2, by decide⟩ ⟨1, by decide⟩, .even ⟨15, by decide⟩ ⟨4, by decide⟩ ⟨1, by decide⟩,
   .even ⟨16, by decide⟩ ⟨6, by decide⟩ ⟨1, by decide⟩, .even ⟨17, by decide⟩ ⟨8, by decide⟩ ⟨1, by decide⟩,
   .even ⟨18, by decide⟩ ⟨10, by decide⟩ ⟨1, by decide⟩, .even ⟨19, by decide⟩ ⟨12, by decide⟩ ⟨1, by decide⟩,
   .even ⟨20, by decide⟩ ⟨14, by decide⟩ ⟨1, by decide⟩, .even ⟨21, by decide⟩ ⟨16, by decide⟩ ⟨1, by decide⟩,
   .even ⟨22, by decide⟩ ⟨18, by decide⟩ ⟨1, by decide⟩, .even ⟨23, by decide⟩ ⟨20, by decide⟩ ⟨1, by decide⟩,
   .even ⟨24, by decide⟩ ⟨22, by decide⟩ ⟨1, by decide⟩, .odd ⟨25, by decide⟩ ⟨3, by decide⟩ ⟨1, by decide⟩,
   .odd ⟨26, by decide⟩ ⟨5, by decide⟩ ⟨1, by decide⟩, .odd ⟨27, by decide⟩ ⟨7, by decide⟩ ⟨1, by decide⟩,
   .odd ⟨28, by decide⟩ ⟨9, by decide⟩ ⟨1, by decide⟩, .odd ⟨29, by decide⟩ ⟨11, by decide⟩ ⟨1, by decide⟩,
   .odd ⟨30, by decide⟩ ⟨13, by decide⟩ ⟨1, by decide⟩, .odd ⟨31, by decide⟩ ⟨15, by decide⟩ ⟨1, by decide⟩,
   .odd ⟨32, by decide⟩ ⟨17, by decide⟩ ⟨1, by decide⟩, .odd ⟨33, by decide⟩ ⟨19, by decide⟩ ⟨1, by decide⟩,
   .odd ⟨34, by decide⟩ ⟨21, by decide⟩ ⟨1, by decide⟩, .odd ⟨35, by decide⟩ ⟨23, by decide⟩ ⟨1, by decide⟩,
   .even ⟨36, by decide⟩ ⟨2, by decide⟩ ⟨2, by decide⟩, .even ⟨37, by decide⟩ ⟨4, by decide⟩ ⟨2, by decide⟩,
   .even ⟨38, by decide⟩ ⟨6, by decide⟩ ⟨2, by decide⟩, .even ⟨39, by decide⟩ ⟨8, by decide⟩ ⟨2, by decide⟩,
   .even ⟨40, by decide⟩ ⟨10, by decide⟩ ⟨2, by decide⟩, .even ⟨41, by decide⟩ ⟨12, by decide⟩ ⟨2, by decide⟩,
   .even ⟨42, by decide⟩ ⟨14, by decide⟩ ⟨2, by decide⟩, .even ⟨43, by decide⟩ ⟨16, by decide⟩ ⟨2, by decide⟩,
   .even ⟨44, by decide⟩ ⟨18, by decide⟩ ⟨2, by decide⟩, .even ⟨45, by decide⟩ ⟨20, by decide⟩ ⟨2, by decide⟩,
   .even ⟨46, by decide⟩ ⟨22, by decide⟩ ⟨2, by decide⟩, .odd ⟨47, by decide⟩ ⟨1, by decide⟩ ⟨2, by decide⟩,
   .odd ⟨48, by decide⟩ ⟨3, by decide⟩ ⟨2, by decide⟩, .odd ⟨49, by decide⟩ ⟨5, by decide⟩ ⟨2, by decide⟩,
   .odd ⟨50, by decide⟩ ⟨7, by decide⟩ ⟨2, by decide⟩, .odd ⟨51, by decide⟩ ⟨9, by decide⟩ ⟨2, by decide⟩,
   .odd ⟨52, by decide⟩ ⟨11, by decide⟩ ⟨2, by decide⟩, .odd ⟨53, by decide⟩ ⟨13, by decide⟩ ⟨2, by decide⟩,
   .odd ⟨54, by decide⟩ ⟨15, by decide⟩ ⟨2, by decide⟩, .odd ⟨55, by decide⟩ ⟨17, by decide⟩ ⟨2, by decide⟩,
   .odd ⟨56, by decide⟩ ⟨19, by decide⟩ ⟨2, by decide⟩, .odd ⟨57, by decide⟩ ⟨21, by decide⟩ ⟨2, by decide⟩,
   .odd ⟨58, by decide⟩ ⟨23, by decide⟩ ⟨2, by decide⟩, .odd ⟨59, by decide⟩ ⟨25, by decide⟩ ⟨2, by decide⟩,
   .even ⟨60, by decide⟩ ⟨0, by decide⟩ ⟨3, by decide⟩, .even ⟨61, by decide⟩ ⟨2, by decide⟩ ⟨3, by decide⟩,
   .even ⟨62, by decide⟩ ⟨4, by decide⟩ ⟨3, by decide⟩, .even ⟨63, by decide⟩ ⟨6, by decide⟩ ⟨3, by decide⟩,
   .even ⟨64, by decide⟩ ⟨8, by decide⟩ ⟨3, by decide⟩, .even ⟨65, by decide⟩ ⟨10, by decide⟩ ⟨3, by decide⟩,
   .even ⟨66, by decide⟩ ⟨12, by decide⟩ ⟨3, by decide⟩, .even ⟨67, by decide⟩ ⟨14, by decide⟩ ⟨3, by decide⟩,
   .even ⟨68, by decide⟩ ⟨16, by decide⟩ ⟨3, by decide⟩, .even ⟨69, by decide⟩ ⟨18, by decide⟩ ⟨3, by decide⟩,
   .even ⟨70, by decide⟩ ⟨20, by decide⟩ ⟨3, by decide⟩, .even ⟨71, by decide⟩ ⟨22, by decide⟩ ⟨3, by decide⟩,
   .even ⟨72, by decide⟩ ⟨24, by decide⟩ ⟨3, by decide⟩, .odd ⟨73, by decide⟩ ⟨1, by decide⟩ ⟨3, by decide⟩,
   .odd ⟨74, by decide⟩ ⟨3, by decide⟩ ⟨3, by decide⟩, .odd ⟨75, by decide⟩ ⟨5, by decide⟩ ⟨3, by decide⟩,
   .odd ⟨76, by decide⟩ ⟨7, by decide⟩ ⟨3, by decide⟩, .odd ⟨77, by decide⟩ ⟨9, by decide⟩ ⟨3, by decide⟩,
   .odd ⟨78, by decide⟩ ⟨11, by decide⟩ ⟨3, by decide⟩, .odd ⟨79, by decide⟩ ⟨13, by decide⟩ ⟨3, by decide⟩,
   .odd ⟨80, by decide⟩ ⟨15, by decide⟩ ⟨3, by decide⟩, .odd ⟨81, by decide⟩ ⟨17, by decide⟩ ⟨3, by decide⟩,
   .odd ⟨82, by decide⟩ ⟨19, by decide⟩ ⟨3, by decide⟩, .odd ⟨83, by decide⟩ ⟨21, by decide⟩ ⟨3, by decide⟩,
   .odd ⟨84, by decide⟩ ⟨23, by decide⟩ ⟨3, by decide⟩, .odd ⟨85, by decide⟩ ⟨25, by decide⟩ ⟨3, by decide⟩,
   .even ⟨86, by decide⟩ ⟨2, by decide⟩ ⟨4, by decide⟩, .even ⟨87, by decide⟩ ⟨4, by decide⟩ ⟨4, by decide⟩,
   .even ⟨88, by decide⟩ ⟨6, by decide⟩ ⟨4, by decide⟩, .even ⟨89, by decide⟩ ⟨8, by decide⟩ ⟨4, by decide⟩,
   .even ⟨90, by decide⟩ ⟨10, by decide⟩ ⟨4, by decide⟩, .even ⟨91, by decide⟩ ⟨12, by decide⟩ ⟨4, by decide⟩,
   .even ⟨92, by decide⟩ ⟨14, by decide⟩ ⟨4, by decide⟩, .even ⟨93, by decide⟩ ⟨16, by decide⟩ ⟨4, by decide⟩,
   .even ⟨94, by decide⟩ ⟨18, by decide⟩ ⟨4, by decide⟩, .even ⟨95, by decide⟩ ⟨20, by decide⟩ ⟨4, by decide⟩,
   .even ⟨96, by decide⟩ ⟨22, by decide⟩ ⟨4, by decide⟩, .odd ⟨97, by decide⟩ ⟨3, by decide⟩ ⟨4, by decide⟩,
   .odd ⟨98, by decide⟩ ⟨5, by decide⟩ ⟨4, by decide⟩, .odd ⟨99, by decide⟩ ⟨7, by decide⟩ ⟨4, by decide⟩,
   .odd ⟨100, by decide⟩ ⟨9, by decide⟩ ⟨4, by decide⟩, .odd ⟨101, by decide⟩ ⟨11, by decide⟩ ⟨4, by decide⟩,
   .odd ⟨102, by decide⟩ ⟨13, by decide⟩ ⟨4, by decide⟩, .odd ⟨103, by decide⟩ ⟨15, by decide⟩ ⟨4, by decide⟩,
   .odd ⟨104, by decide⟩ ⟨17, by decide⟩ ⟨4, by decide⟩, .odd ⟨105, by decide⟩ ⟨19, by decide⟩ ⟨4, by decide⟩,
   .odd ⟨106, by decide⟩ ⟨21, by decide⟩ ⟨4, by decide⟩, .odd ⟨107, by decide⟩ ⟨23, by decide⟩ ⟨4, by decide⟩,
   .even ⟨108, by decide⟩ ⟨2, by decide⟩ ⟨5, by decide⟩, .even ⟨109, by decide⟩ ⟨4, by decide⟩ ⟨5, by decide⟩,
   .even ⟨110, by decide⟩ ⟨6, by decide⟩ ⟨5, by decide⟩, .even ⟨111, by decide⟩ ⟨8, by decide⟩ ⟨5, by decide⟩,
   .even ⟨112, by decide⟩ ⟨10, by decide⟩ ⟨5, by decide⟩, .even ⟨113, by decide⟩ ⟨12, by decide⟩ ⟨5, by decide⟩,
   .even ⟨114, by decide⟩ ⟨14, by decide⟩ ⟨5, by decide⟩, .even ⟨115, by decide⟩ ⟨16, by decide⟩ ⟨5, by decide⟩,
   .even ⟨116, by decide⟩ ⟨18, by decide⟩ ⟨5, by decide⟩, .even ⟨117, by decide⟩ ⟨20, by decide⟩ ⟨5, by decide⟩,
   .even ⟨118, by decide⟩ ⟨22, by decide⟩ ⟨5, by decide⟩, .odd ⟨119, by decide⟩ ⟨3, by decide⟩ ⟨5, by decide⟩,
   .odd ⟨120, by decide⟩ ⟨5, by decide⟩ ⟨5, by decide⟩, .odd ⟨121, by decide⟩ ⟨7, by decide⟩ ⟨5, by decide⟩,
   .odd ⟨122, by decide⟩ ⟨9, by decide⟩ ⟨5, by decide⟩, .odd ⟨123, by decide⟩ ⟨11, by decide⟩ ⟨5, by decide⟩,
   .odd ⟨124, by decide⟩ ⟨13, by decide⟩ ⟨5, by decide⟩, .odd ⟨125, by decide⟩ ⟨15, by decide⟩ ⟨5, by decide⟩,
   .odd ⟨126, by decide⟩ ⟨17, by decide⟩ ⟨5, by decide⟩, .odd ⟨127, by decide⟩ ⟨19, by decide⟩ ⟨5, by decide⟩,
   .odd ⟨128, by decide⟩ ⟨21, by decide⟩ ⟨5, by decide⟩, .odd ⟨129, by decide⟩ ⟨23, by decide⟩ ⟨5, by decide⟩,
   .even ⟨130, by decide⟩ ⟨10, by decide⟩ ⟨6, by decide⟩, .even ⟨131, by decide⟩ ⟨12, by decide⟩ ⟨6, by decide⟩,
   .even ⟨132, by decide⟩ ⟨14, by decide⟩ ⟨6, by decide⟩]

/-- The kernel's block before the norm: the separable filter plus the corrections one after another. -/
def accV (x0 : Vec Ideal S7x32x128 .f32) (x1 : Vec Ideal S128x128 .f32) (x2 : Vec Ideal S64x64 .f32)
    (x3 : Vec Ideal S133x32x128 .bf16) : FVec Ideal S7x32x128 .f32 :=
  taps.foldl (Tap.add x0 x3) (sepV x0 x1 x2)

set_option maxHeartbeats 8000000 in
/-- The body leaves the corrected filter times the reciprocal norm. -/
theorem out_block (c : Dev nD) (i : grid0.Coords) (arg1 : Memref sig .tc .vmem S7x32x128 .f32) (harg1 : arg1.IsWhole)
    (arg2 : Memref sig .tc .vmem S128x128 .f32) (harg2 : arg2.IsWhole)
    (arg3 : Memref sig .tc .vmem S64x64 .f32) (harg3 : arg3.IsWhole)
    (arg4 : Memref sig .tc .vmem S133x32x128 .bf16) (harg4 : arg4.IsWhole)
    (arg5 : Memref sig .tc .vmem S32x128 .f32) (harg5 : arg5.IsWhole)
    (arg6 : Memref sig .tc .vmem S7x32x128 .f32) (harg6 : arg6.IsWhole)
    (arg7 : Memref sig .tc .vmem S26x7x38x128 .f32) (harg7 : arg7.IsWhole)
    (x0 : Vec Ideal S7x32x128 .f32) (x1 : Vec Ideal S128x128 .f32) (x2 : Vec Ideal S64x64 .f32)
    (x3 : Vec Ideal S133x32x128 .bf16) (x4 : Vec Ideal S32x128 .f32) :
    out0_A_5 c i arg1 harg1 arg2 harg2 arg3 harg3 arg4 harg4 arg5 harg5 arg6 harg6 arg7 harg7 x0 x1 x2 x3 x4
    = mulf (accV x0 x1 x2 x3) (broadcastTo S7x32x128 (shapeCast S1x32x128
        (shapeCast S32x128 x4 shapeCasts_S32x128_S32x128) shapeCasts_S32x128_S1x32x128)
        broadcasts_S1x32x128_S7x32x128) := by
  unfold out0_A_5
  rw [View.read_writes_eq_canon _ _ _ (fun y => cover0_A_5 _ _ _ _ _ _ _ _ _ _ _ _ _ _ _ _ _ _ _ _ _ y)]
  unfold kernelRun0_A
  dsimp only
  rw [View.canon_unit_zero (by decide)]
  dsimp only [
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44,
    kernelRun0_A.sl.r_45, kernelRun0_A.sl.r_46, kernelRun0_A.sl.r_47, kernelRun0_A.sl.r_48, kernelRun0_A.sl.r_49,
    kernelRun0_A.sl.r_50, kernelRun0_A.sl.r_51, kernelRun0_A.sl.r_52, kernelRun0_A.sl.r_53, kernelRun0_A.sl.r_54,
    kernelRun0_A.sl.r_55, kernelRun0_A.sl.r_56, kernelRun0_A.sl.r_57, kernelRun0_A.sl.r_58, kernelRun0_A.sl.r_59,
    kernelRun0_A.sl.r_60, kernelRun0_A.sl.r_61, kernelRun0_A.sl.r_62, kernelRun0_A.sl.r_63, kernelRun0_A.sl.r_64,
    kernelRun0_A.sl.r_65, kernelRun0_A.sl.r_66, kernelRun0_A.sl.r_67, kernelRun0_A.sl.r_68, kernelRun0_A.sl.r_69,
    kernelRun0_A.sl.r_70, kernelRun0_A.sl.r_71, kernelRun0_A.sl.r_72, kernelRun0_A.sl.r_73, kernelRun0_A.sl.r_74,
    kernelRun0_A.sl.r_75, kernelRun0_A.sl.r_76, kernelRun0_A.sl.r_77, kernelRun0_A.sl.r_78, kernelRun0_A.sl.r_79,
    kernelRun0_A.sl.r_80, kernelRun0_A.sl.r_81, kernelRun0_A.sl.r_82, kernelRun0_A.sl.r_83, kernelRun0_A.sl.r_84,
    kernelRun0_A.sl.r_85, kernelRun0_A.sl.r_86, kernelRun0_A.sl.r_87, kernelRun0_A.sl.r_88, kernelRun0_A.sl.r_89,
    kernelRun0_A.sl.r_90, kernelRun0_A.sl.r_91, kernelRun0_A.sl.r_92, kernelRun0_A.sl.r_93, kernelRun0_A.sl.r_94,
    kernelRun0_A.sl.r_95, kernelRun0_A.sl.r_96, kernelRun0_A.sl.r_97, kernelRun0_A.sl.r_98, kernelRun0_A.sl.r_99,
    kernelRun0_A.sl.r_100, kernelRun0_A.sl.r_101, kernelRun0_A.sl.r_102, kernelRun0_A.sl.r_103,
    kernelRun0_A.sl.r_104, kernelRun0_A.sl.r_105, k0_pay94, k0_pay95, k0_pay96, k0_pay97, k0_pay98, k0_pay99,
    k0_pay100, k0_pay101, k0_pay102, k0_pay103, k0_pay104, k0_pay105, k0_pay106, k0_pay107, k0_pay108, k0_pay109,
    k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139,
    k0_pay140, k0_pay141, k0_pay142, k0_pay143, k0_pay144, k0_pay145, k0_pay146, k0_pay147, k0_pay148, k0_pay149,
    k0_pay150, k0_pay151, k0_pay152, k0_pay153, k0_pay154, k0_pay155, k0_pay156, k0_pay157, k0_pay158, k0_pay159,
    k0_pay160, k0_pay161, k0_pay162, k0_pay163, k0_pay164, k0_pay165, k0_pay166, k0_pay167, k0_pay168, k0_pay169,
    k0_pay170, k0_pay171, k0_pay172, k0_pay173, k0_pay174, k0_pay175, k0_pay176, k0_pay177, k0_pay178, k0_pay179,
    k0_pay180, k0_pay181, k0_pay182, k0_pay183, k0_pay184, k0_pay185, k0_pay186, k0_pay187, k0_pay188, k0_pay189,
    k0_pay190, k0_pay191, k0_pay192, k0_pay193, k0_pay194, k0_pay195, k0_pay196,
    kernelRun0_A.sl.r_1, kernelRun0_A.sl.r_2, kernelRun0_A.sl.r_3, kernelRun0_A.sl.r_4, kernelRun0_A.sl.r_5,
    kernelRun0_A.sl.r_6, kernelRun0_A.sl.r_7, kernelRun0_A.sl.r_8,
    kernelRun0_A.sl.v325, kernelRun0_A.sl.v334, kernelRun0_A.sl.v343, kernelRun0_A.sl.v352, kernelRun0_A.sl.v355,
    kernelRun0_A.sl.v367, kernelRun0_A.sl.v370, kernelRun0_A.sl.v382, kernelRun0_A.sl.v385, kernelRun0_A.sl.v397,
    kernelRun0_A.sl.v400, kernelRun0_A.sl.v412, kernelRun0_A.sl.v415, kernelRun0_A.sl.v427, kernelRun0_A.sl.v430,
    kernelRun0_A.sl.v442, kernelRun0_A.sl.v445, kernelRun0_A.sl.v457, kernelRun0_A.sl.v460, kernelRun0_A.sl.v472,
    kernelRun0_A.sl.v475, kernelRun0_A.sl.v487, kernelRun0_A.sl.v490, kernelRun0_A.sl.v502, kernelRun0_A.sl.v505,
    kernelRun0_A.sl.v517, kernelRun0_A.sl.v526, kernelRun0_A.sl.v535, kernelRun0_A.sl.v544, kernelRun0_A.sl.v553,
    kernelRun0_A.sl.v562, kernelRun0_A.sl.v571, kernelRun0_A.sl.v580, kernelRun0_A.sl.v589, kernelRun0_A.sl.v598,
    kernelRun0_A.sl.v607, kernelRun0_A.sl.v619, kernelRun0_A.sl.v634, kernelRun0_A.sl.v649, kernelRun0_A.sl.v664,
    kernelRun0_A.sl.v679, kernelRun0_A.sl.v694, kernelRun0_A.sl.v709, kernelRun0_A.sl.v724, kernelRun0_A.sl.v739,
    kernelRun0_A.sl.v754, kernelRun0_A.sl.v769, kernelRun0_A.sl.v781, kernelRun0_A.sl.v790, kernelRun0_A.sl.v799,
    kernelRun0_A.sl.v808, kernelRun0_A.sl.v817, kernelRun0_A.sl.v826, kernelRun0_A.sl.v835, kernelRun0_A.sl.v844,
    kernelRun0_A.sl.v853, kernelRun0_A.sl.v862, kernelRun0_A.sl.v871, kernelRun0_A.sl.v880, kernelRun0_A.sl.v883,
    kernelRun0_A.sl.v898, kernelRun0_A.sl.v913, kernelRun0_A.sl.v928, kernelRun0_A.sl.v943, kernelRun0_A.sl.v958,
    kernelRun0_A.sl.v973, kernelRun0_A.sl.v988, kernelRun0_A.sl.v1003, kernelRun0_A.sl.v1018, kernelRun0_A.sl.v1033,
    kernelRun0_A.sl.v1048, kernelRun0_A.sl.v1060, kernelRun0_A.sl.v1063, kernelRun0_A.sl.v1075, kernelRun0_A.sl.v1084,
    kernelRun0_A.sl.v1093, kernelRun0_A.sl.v1102, kernelRun0_A.sl.v1111, kernelRun0_A.sl.v1120, kernelRun0_A.sl.v1129,
    kernelRun0_A.sl.v1138, kernelRun0_A.sl.v1147, kernelRun0_A.sl.v1156, kernelRun0_A.sl.v1165, kernelRun0_A.sl.v1174,
    kernelRun0_A.sl.v1183, kernelRun0_A.sl.v1195, kernelRun0_A.sl.v1210, kernelRun0_A.sl.v1225, kernelRun0_A.sl.v1240,
    kernelRun0_A.sl.v1255, kernelRun0_A.sl.v1270, kernelRun0_A.sl.v1285, kernelRun0_A.sl.v1300, kernelRun0_A.sl.v1315,
    kernelRun0_A.sl.v1330, kernelRun0_A.sl.v1345, kernelRun0_A.sl.v1360, kernelRun0_A.sl.v1375, kernelRun0_A.sl.v1387,
    kernelRun0_A.sl.v1396, kernelRun0_A.sl.v1405, kernelRun0_A.sl.v1414, kernelRun0_A.sl.v1423, kernelRun0_A.sl.v1432,
    kernelRun0_A.sl.v1441, kernelRun0_A.sl.v1450, kernelRun0_A.sl.v1459, kernelRun0_A.sl.v1468, kernelRun0_A.sl.v1477,
    kernelRun0_A.sl.v1489, kernelRun0_A.sl.v1504, kernelRun0_A.sl.v1519, kernelRun0_A.sl.v1534, kernelRun0_A.sl.v1549,
    kernelRun0_A.sl.v1564, kernelRun0_A.sl.v1579, kernelRun0_A.sl.v1594, kernelRun0_A.sl.v1609, kernelRun0_A.sl.v1624,
    kernelRun0_A.sl.v1639, kernelRun0_A.sl.v1651, kernelRun0_A.sl.v1660, kernelRun0_A.sl.v1669, kernelRun0_A.sl.v1678,
    kernelRun0_A.sl.v1687, kernelRun0_A.sl.v1696, kernelRun0_A.sl.v1705, kernelRun0_A.sl.v1714, kernelRun0_A.sl.v1723,
    kernelRun0_A.sl.v1732, kernelRun0_A.sl.v1741, kernelRun0_A.sl.v1753, kernelRun0_A.sl.v1768, kernelRun0_A.sl.v1783,
    kernelRun0_A.sl.v1798, kernelRun0_A.sl.v1813, kernelRun0_A.sl.v1828, kernelRun0_A.sl.v1843, kernelRun0_A.sl.v1858,
    kernelRun0_A.sl.v1873, kernelRun0_A.sl.v1888, kernelRun0_A.sl.v1903, kernelRun0_A.sl.v1915, kernelRun0_A.sl.v1924,
    kernelRun0_A.sl.v1933]
  simp only [corrB_eq, rowB_eq, lowB_eq]
  simp only [View.readAt_eq_ld, Memref.IsWhole.read_unread]
  simp (disch := decide) only [View.ld_unit_lit']
  rw [accV, taps]
  simp only [List.foldl_cons, List.foldl_nil, Tap.add, Nat.reduceAdd]
  rfl

end Cert.Kernel2Ideal.Taps
end
-- ==== Proof.TapVal.lean ====
module

public import proofs.«01_k».proof.Proof.Taps
public import proofs.«01_k».proof.Proof.Offsets

/-! The listed neighbours' part of the kernel body, entry by entry: every neighbour's correction times the input at that
neighbour. -/

@[expose] public section

set_option maxRecDepth 16384

noncomputable section

open Idealize.ShloMosaic Idealize.ShloMosaic.TcCoe Idealize.SL.Sem

namespace Cert.Kernel2Ideal.Taps
open Cert.Kernel2Ideal Cert.Kernel2Ideal.Gen Cert.Kernel2Ideal.Offsets

/-- A plane repeated over the channels. -/
theorem plane_at (g : Vec Ideal S1x32x128 .bf16) (c : Fin 7) (p : Fin 32) (l : Fin 128) :
    (broadcastTo S7x32x128 (shapeCast S1x32x128 (extf .f32 (shapeCast S32x128 g shapeCasts_S1x32x128_S32x128)
      bitsLt_bf16_f32) shapeCasts_S32x128_S1x32x128) broadcasts_S1x32x128_S7x32x128 : FVec Ideal S7x32x128 .f32) (ix3 c p l)
      = (g (ix3 0 p l) : EReal) := by
  pointwise []

/-- A block without its leading axis. -/
theorem slot_at (g : Vec Ideal S1x7x32x128 .f32) (c : Fin 7) (p : Fin 32) (l : Fin 128) :
    (shapeCast S7x32x128 g shapeCasts_S1x7x32x128_S7x32x128 : FVec Ideal S7x32x128 .f32) (ix3 c p l)
      = (g (ix4 0 c p l) : EReal) := by
  pointwise []

/-- One plane of the correction table at a packed place. -/
theorem corrB_at (x3 : Vec Ideal S133x32x128 .bf16) (k : Fin 133) (c : Fin 7) (p : Fin 32) (l : Fin 128) :
    corrB x3 ![(k : ℕ), 0, 0] (inb_corr k) (ix3 c p l) = (x3 (ix3 k p l) : EReal) := by
  refine (plane_at _ c p l).trans ?_
  refine View.ld_unit_apply_of x3 _ _ (inb_corr k) _ (ix3 k p l) fun a => ?_
  fin_cases a
  · rfl
  · exact (Nat.zero_add _).symm
  · exact (Nat.zero_add _).symm

/-- One shifted block out of the scratch at a packed place. -/
theorem rowB_at (x0 : Vec Ideal S7x32x128 .f32) (s : Fin 26) (m : Fin 7) (c : Fin 7) (p : Fin 32) (l : Fin 128) :
    rowB x0 ![(s : ℕ), 0, (m : ℕ), 0] (inb_row s m) (ix3 c p l) = scr x0 (ix4 s c ⟨m + p, by omega⟩ l) := by
  refine (slot_at _ c p l).trans ?_
  refine View.ld_unit_apply_of (scr x0) _ _ (inb_row s m) _ (ix4 s c ⟨m + p, by omega⟩ l) fun a => ?_
  fin_cases a
  · rfl
  · exact (Nat.zero_add _).symm
  · rfl
  · exact (Nat.zero_add _).symm

/-- The mask of the low lanes. -/
theorem lowB_at (c : Fin 7) (p : Fin 32) (l : Fin 128) :
    lowB (ix3 c p l) = IntOp.cmpi .slt (BitVec.ofNat 32 l) 64#32 := by
  pointwise [lowB, k0_pay3]

/-- What a listed neighbour reads at a packed place. -/
def Tap.read (x0 : Vec Ideal S7x32x128 .f32) (c : Fin 7) (p : Fin 32) (l : Fin 128) : Tap → EReal
  | .even k s m => scr x0 (ix4 s c ⟨m + p, by omega⟩ l)
  | .odd k s m => if (l : ℕ) < 64 then scr x0 (ix4 s c ⟨m + p, by omega⟩ l) else scr x0 (ix4 s c ⟨m + 1 + p, by omega⟩ l)

/-- The plane of the correction table a listed neighbour takes. -/
def Tap.plane : Tap → Fin 133
  | .even k _ _ => k
  | .odd k _ _ => k

/-- The low lanes are those below 64. -/
theorem low_eq (l : Fin 128) : IntOp.cmpi .slt (BitVec.ofNat 32 l) 64#32 = BitVec.ofBool (decide ((l : ℕ) < 64)) := by
  revert l; decide

/-- What a listed neighbour adds at a packed place. -/
theorem add_at (x0 : Vec Ideal S7x32x128 .f32) (x3 : Vec Ideal S133x32x128 .bf16) (acc : FVec Ideal S7x32x128 .f32)
    (t : Tap) (c : Fin 7) (p : Fin 32) (l : Fin 128) :
    (Tap.add x0 x3 acc t (ix3 c p l) : EReal) = acc (ix3 c p l) + x3 (ix3 t.plane p l) * t.read x0 c p l := by
  cases t with
  | even k s m =>
    refine congrArg (acc (ix3 c p l) + ·) (congrArg₂ (· * ·) (corrB_at x3 k c p l) (rowB_at x0 s m c p l))
  | odd k s m =>
    refine congrArg (acc (ix3 c p l) + ·) (congrArg₂ (· * ·) (corrB_at x3 k c p l) ?_)
    have e : select lowB (rowB x0 ![(s : ℕ), 0, (m : ℕ), 0] (inb_row s ⟨m, by omega⟩))
        (rowB x0 ![(s : ℕ), 0, (m : ℕ) + 1, 0] (inb_row s ⟨m + 1, by omega⟩)) (ix3 c p l)
        = Scalar.select (BitVec.ofBool (decide ((l : ℕ) < 64))) (scr x0 (ix4 s c ⟨m + p, by omega⟩ l))
          (scr x0 (ix4 s c ⟨m + 1 + p, by omega⟩ l)) := by
      rw [← low_eq, ← lowB_at c p l, ← rowB_at x0 s ⟨m, by omega⟩ c p l, ← rowB_at x0 s ⟨m + 1, by omega⟩ c p l]
      rfl
    refine e.trans ?_
    by_cases h : (l : ℕ) < 64
    · simp only [Tap.read, h, if_true, decide_true]; rfl
    · simp only [Tap.read, h, if_false, decide_false]; rfl

/-- The accumulator after a list of neighbours. -/
theorem foldl_at (x0 : Vec Ideal S7x32x128 .f32) (x3 : Vec Ideal S133x32x128 .bf16) (ts : List Tap) (c : Fin 7)
    (p : Fin 32) (l : Fin 128) (acc : FVec Ideal S7x32x128 .f32) :
    (ts.foldl (Tap.add x0 x3) acc (ix3 c p l) : EReal)
      = acc (ix3 c p l) + (ts.map fun t => (x3 (ix3 t.plane p l) : EReal) * t.read x0 c p l).sum := by
  induction ts generalizing acc with
  | nil => simp
  | cons t ts ih => rw [List.foldl_cons, ih, add_at, List.map_cons, List.sum_cons, add_assoc]

/-- The listed neighbour of a given number. -/
def tapOf (k : Fin 133) : Tap :=
  if h : gy k % 2 = 0 then .even k ⟨2 * gx k, by have := gx_le k; omega⟩ ⟨gy k / 2, by have := gy_le k; omega⟩
  else .odd k ⟨2 * gx k + 1, by have := gx_le k; omega⟩ ⟨gy k / 2, by have := gy_le k; omega⟩

/-- A listed neighbour written as numbers. -/
def Tap.code : Tap → ℕ × ℕ × ℕ × ℕ
  | .even k s m => (0, k, s, m)
  | .odd k s m => (1, k, s, m)

theorem code_inj : ∀ t u : Tap, t.code = u.code → t = u := by
  intro t u h
  cases t <;> cases u <;> simp [Tap.code, Fin.val_inj] at h <;> simp [h]

/-- The kernel's list holds the neighbours in the order of their numbers. -/
theorem codes : taps.map Tap.code = (List.finRange 133).map fun k => (gy k % 2, (k : ℕ), 2 * gx k + gy k % 2, gy k / 2) := by
  decide +kernel

theorem tapOf_code (k : Fin 133) : (tapOf k).code = (gy k % 2, (k : ℕ), 2 * gx k + gy k % 2, gy k / 2) := by
  unfold tapOf
  rcases Nat.mod_two_eq_zero_or_one (gy k) with h | h
  · rw [dif_pos h]
    show (0, (k : ℕ), 2 * gx k, gy k / 2) = _
    rw [h, Nat.add_zero]
  · rw [dif_neg (by omega)]
    show (1, (k : ℕ), 2 * gx k + 1, gy k / 2) = _
    rw [h]

theorem taps_eq : taps = (List.finRange 133).map tapOf := by
  refine (List.map_injective_iff.mpr code_inj) ?_
  rw [codes, List.map_map]
  exact List.map_congr_left fun k _ => (tapOf_code k).symm

theorem plane_tapOf (k : Fin 133) : (tapOf k).plane = k := by
  unfold tapOf; split <;> rfl

/-- The accumulator after all neighbours: the separable filter plus every correction times what its neighbour reads. -/
theorem acc_at (x0 : Vec Ideal S7x32x128 .f32) (x1 : Vec Ideal S128x128 .f32) (x2 : Vec Ideal S64x64 .f32)
    (x3 : Vec Ideal S133x32x128 .bf16) (c : Fin 7) (p : Fin 32) (l : Fin 128) :
    (accV x0 x1 x2 x3 (ix3 c p l) : EReal) = sepV x0 x1 x2 (ix3 c p l)
      + ∑ k : Fin 133, (x3 (ix3 k p l) : EReal) * (tapOf k).read x0 c p l := by
  unfold accV
  rw [foldl_at, taps_eq, List.map_map, Fin.sum_univ_def]
  simp only [Function.comp_def, plane_tapOf]

/-- Where a shifted row and lane land, for an even row offset. -/
theorem even_nat (p l g h : ℕ) (hp : p < 32) (hl : l < 128) (he : g % 2 = 0)
    (hy : 6 ≤ p * 2 + l / 64 + g ∧ p * 2 + l / 64 + g < 70) (hx : 6 ≤ l % 64 + h ∧ l % 64 + h < 70) :
    g / 2 + p = (p * 2 + l / 64 + g - 6) / 2 + 3
      ∧ (l + 2 * h / 2 + 122 + 64 * (2 * h % 2)) % 128 = (p * 2 + l / 64 + g - 6) % 2 * 64 + (l % 64 + h - 6) := by
  have h1 : 2 * h / 2 = h := by omega
  have h2 : 2 * h % 2 = 0 := by omega
  rw [h1, h2]
  rcases lt_or_ge l 64 with h3 | h3
  · have e1 : l / 64 = 0 := by omega
    have e2 : l % 64 = l := by omega
    rw [e1, e2] at *
    omega
  · have e1 : l / 64 = 1 := by omega
    have e2 : l % 64 = l - 64 := by omega
    rw [e1, e2] at *
    omega

/-- Where a shifted row and lane land, for an odd row offset in the low lanes. -/
theorem odd_low_nat (p l g h : ℕ) (hp : p < 32) (hl : l < 64) (he : g % 2 = 1)
    (hy : 6 ≤ p * 2 + l / 64 + g ∧ p * 2 + l / 64 + g < 70) (hx : 6 ≤ l % 64 + h ∧ l % 64 + h < 70) :
    g / 2 + p = (p * 2 + l / 64 + g - 6) / 2 + 3
      ∧ (l + (2 * h + 1) / 2 + 122 + 64 * ((2 * h + 1) % 2)) % 128
        = (p * 2 + l / 64 + g - 6) % 2 * 64 + (l % 64 + h - 6) := by
  have h1 : (2 * h + 1) / 2 = h := by omega
  have h2 : (2 * h + 1) % 2 = 1 := by omega
  have e1 : l / 64 = 0 := by omega
  have e2 : l % 64 = l := by omega
  rw [h1, h2]
  rw [e1, e2] at *
  omega

/-- Where a shifted row and lane land, for an odd row offset in the high lanes. -/
theorem odd_high_nat (p l g h : ℕ) (hp : p < 32) (h64 : ¬ l < 64) (hl : l < 128) (he : g % 2 = 1)
    (hy : 6 ≤ p * 2 + l / 64 + g ∧ p * 2 + l / 64 + g < 70) (hx : 6 ≤ l % 64 + h ∧ l % 64 + h < 70) :
    g / 2 + 1 + p = (p * 2 + l / 64 + g - 6) / 2 + 3
      ∧ (l + (2 * h + 1) / 2 + 122 + 64 * ((2 * h + 1) % 2)) % 128
        = (p * 2 + l / 64 + g - 6) % 2 * 64 + (l % 64 + h - 6) := by
  have h1 : (2 * h + 1) / 2 = h := by omega
  have h2 : (2 * h + 1) % 2 = 1 := by omega
  have e1 : l / 64 = 1 := by omega
  have e2 : l % 64 = l - 64 := by omega
  rw [h1, h2]
  rw [e1, e2] at *
  omega

/-- A listed neighbour in the image reads the input there. -/
theorem read_at (x0 : Vec Ideal S7x32x128 .f32) (k : Fin 133) (c : Fin 7) (p : Fin 32) (l : Fin 128)
    (hy : 6 ≤ (p : ℕ) * 2 + l / 64 + gy k ∧ (p : ℕ) * 2 + l / 64 + gy k < 70)
    (hx : 6 ≤ (l : ℕ) % 64 + gx k ∧ (l : ℕ) % 64 + gx k < 70) :
    (tapOf k).read x0 c p l = x0 (ix3 c ⟨((p : ℕ) * 2 + l / 64 + gy k - 6) / 2, by omega⟩
      ⟨((p : ℕ) * 2 + l / 64 + gy k - 6) % 2 * 64 + ((l : ℕ) % 64 + gx k - 6), by omega⟩) := by
  have hp := p.isLt
  have hl := l.isLt
  rcases Nat.mod_two_eq_zero_or_one (gy k) with e | e
  · rw [tapOf, dif_pos e]
    have h := even_nat p l (gy k) (gx k) hp hl e hy hx
    exact scr_mid x0 _ c _ _ rfl h.1 h.2
  · rw [tapOf, dif_neg (by omega)]
    by_cases h64 : (l : ℕ) < 64
    · have h := odd_low_nat p l (gy k) (gx k) hp h64 e hy hx
      exact (if_pos h64).trans (scr_mid x0 _ c _ _ rfl h.1 h.2)
    · have h := odd_high_nat p l (gy k) (gx k) hp h64 hl e hy hx
      exact (if_neg h64).trans (scr_mid x0 _ c _ _ rfl h.1 h.2)

end Cert.Kernel2Ideal.Taps
end
-- ==== Proof.Array2.lean ====
module

public import proofs.«01_k».proof.Proof.Array
public import proofs.«01_k».proof.Proof.Entries2
public import proofs.«01_k».proof.Proof.TapVal

/-! What the second call's result array holds after the run. -/

@[expose] public section

set_option maxRecDepth 16384

noncomputable section

open Idealize.ShloMosaic Idealize.ShloMosaic.TcCoe Idealize.SL.Sem

namespace Cert.Kernel2Ideal.Array
open Cert.Kernel2Ideal Cert.Kernel2Ideal.Gen Cert.Gauss Cert.Kernel2Ideal.Tables Cert.Kernel2Ideal.Taps
open Cert.KernelIdeal.Tables (gb2Of geoOf corrPackedOf corrPackedOf_at invPacked_at qPacked_at)

variable (m : (ℓ : Loc nD τ sig) → Buf (Elt Ideal) ℓ)

/-- The input, as the launch's memory holds it. -/
abbrev argX (c : Dev nD) : FVec Ideal S1x21x64x64 .f32 := m ((c : Thread nD τ).loc main_arg0)
/-- The coordinates. -/
abbrev argE (c : Dev nD) : FVec Ideal S64 .f32 := m ((c : Thread nD τ).loc main_arg1)
/-- The rounded coordinates. -/
abbrev argB (c : Dev nD) : FVec Ideal S64 .f32 := m ((c : Thread nD τ).loc main_arg2)

/-- The separable filter is the first call's. -/
theorem sepV_eq (x0 : Vec Ideal S7x32x128 .f32) (x1 : Vec Ideal S128x128 .f32) (x2 : Vec Ideal S64x64 .f32) :
    sepV x0 x1 x2 = Cert.KernelIdeal.Block.sepV x0 x1 x2 := rfl

/-- The result at a pixel: the two passes over the channel's image plus the listed neighbours' corrections, times the
reciprocal norm. -/
def pixel (x : FVec Ideal S1x21x64x64 .f32) (e b : FVec Ideal S64 .f32) (c : Fin 21) (i j : Fin 64) : EReal :=
  (twoPass (fun i j => wt (sq2 (ent e) (ent b) i j)) (fun y z => x (ix4 0 c y z)) i j
      + ∑ k, nbrTerm (sq2 (ent e) (ent b)) (fun y z => x (ix4 0 c y z)) i j k)
    * invT e b (ix2 i j)

/-- The packed result. -/
def packedV (x : FVec Ideal S1x21x64x64 .f32) (e b : FVec Ideal S64 .f32) : FVec Ideal S21x32x128 .f32 := fun i =>
  pixel x e b (i 0)
    ⟨(i 1 : ℕ) * 2 + (i 2 : ℕ) / 64, by have h1 : (i 1 : ℕ) < 32 := (i 1).isLt; have h2 : (i 2 : ℕ) < 128 := (i 2).isLt; omega⟩
    ⟨(i 2 : ℕ) % 64, by omega⟩

/-- The packed result at a packed place. -/
theorem packed_at (x : FVec Ideal S1x21x64x64 .f32) (e b : FVec Ideal S64 .f32) (c : Fin 21) (p : Fin 32) (l : Fin 128) :
    packedV x e b (ix3 c p l) = pixel x e b c ⟨p * 2 + l / 64, by omega⟩ ⟨l % 64, by omega⟩ := rfl

/-- Which block every window stages at a point: the channel block for the input and the result, the whole table otherwise. -/
theorem idx : ∀ t : Fin cfg0.N, win0_0.index t = ![(t : ℕ), 0, 0] ∧ win0_1.index t = ![0, 0] ∧ win0_2.index t = ![0, 0]
    ∧ win0_3.index t = ![0, 0, 0] ∧ win0_4.index t = ![0, 0] ∧ win0_5.index t = ![(t : ℕ), 0, 0] :=
  (by decide +kernel : ∀ t : Fin grid0.N, _)

/-- The staged row-pass table is the whole table. -/
theorem blk1 (c : Dev nD) (t : Fin cfg0.N) : iblk m c 1 t = gb2Of (gbOf (argE m c) (argB m c)) := by
  funext y
  blk_simp [iblk]
  rw [show V m c main_v102 = _ from V_gb2 m c]
  blk_ext [idx t]

/-- The staged column-pass table is the whole table. -/
theorem blk2 (c : Dev nD) (t : Fin cfg0.N) : iblk m c 2 t = geoOf (gbOf (argE m c) (argB m c)) := by
  funext y
  blk_simp [iblk]
  rw [show V m c main_v109 = _ from V_geo m c]
  blk_ext [idx t]

/-- The staged corrections are the whole packed table. -/
theorem blk3 (c : Dev nD) (t : Fin cfg0.N) : iblk m c 3 t = corrPackedOf (corrT (argE m c) (argB m c)) := by
  funext y
  blk_simp [iblk]
  rw [show V m c main_v111 = _ from V_corr m c]
  blk_ext [idx t]

/-- The staged reciprocal norm is the whole packed table. -/
theorem blk4 (c : Dev nD) (t : Fin cfg0.N) :
    iblk m c 4 t = shapeCast S32x128 (invT (argE m c) (argB m c)) shapeCasts_S64x64_S32x128 := by
  funext y
  blk_simp [iblk]
  rw [show V m c main_v98 = _ from V_inv m c]
  blk_ext [idx t]

/-- The staged input block holds seven channels of the packed input. -/
theorem blk0 (c : Dev nD) (t : Fin cfg0.N) (k : Fin 7) (r : Fin 32) (l : Fin 128) (hk : (t : ℕ) * 7 + k < 21) :
    (iblk m c 0 t : FVec Ideal S7x32x128 .f32) (ix3 k r l)
      = argX m c (ix4 0 ⟨t * 7 + k, hk⟩ ⟨r * 2 + l / 64, by omega⟩ ⟨l % 64, by omega⟩) := by
  rw [← qPacked_at (argX m c) ⟨t * 7 + k, hk⟩ r l]
  blk_simp [iblk]
  rw [show V m c main_v112 = _ from V_q m c]
  blk_ext [idx t]

/-- The accumulator of a block that holds one channel's image in its channel, with the corrections of given coordinates. -/
theorem acc_pixel (e b : FVec Ideal S64 .f32) (hs : ∀ i j, sq2 (ent e) (ent b) i j ≠ ⊥) (X : Fin 64 → Fin 64 → EReal)
    (x0 : FVec Ideal S7x32x128 .f32) (c : Fin 7)
    (hx : ∀ (r : Fin 32) (k : Fin 128), x0 (ix3 c r k) = X ⟨r * 2 + k / 64, by omega⟩ ⟨k % 64, by omega⟩)
    (p : Fin 32) (l : Fin 128) :
    (accV x0 (gb2Of (gbOf e b)) (geoOf (gbOf e b)) (corrPackedOf (corrT e b)) (ix3 c p l) : EReal)
      = twoPass (fun i j => wt (sq2 (ent e) (ent b) i j)) X ⟨p * 2 + l / 64, by omega⟩ ⟨l % 64, by omega⟩
        + ∑ k, nbrTerm (sq2 (ent e) (ent b)) X ⟨p * 2 + l / 64, by omega⟩ ⟨l % 64, by omega⟩ k := by
  rw [acc_at, sepV_eq]
  refine congrArg₂ (· + ·) ?_ (Finset.sum_congr rfl fun k _ => ?_)
  · refine (Cert.KernelIdeal.Block.sep_eq (gbOf e b) X x0 c hx p l).trans ?_
    simp only [gbOf_at]
  · rw [corrPackedOf_at, corrT_at e b hs]
    unfold nbrTerm
    by_cases h : (6 ≤ (p : ℕ) * 2 + (l : ℕ) / 64 + Offsets.gy k ∧ (p : ℕ) * 2 + (l : ℕ) / 64 + Offsets.gy k < 70)
        ∧ 6 ≤ (l : ℕ) % 64 + Offsets.gx k ∧ (l : ℕ) % 64 + Offsets.gx k < 70
    · rw [dif_pos h, dif_pos h, read_at x0 k c p l h.1 h.2, hx]
      refine congrArg _ (congrArg₂ X (Fin.ext ?_) (Fin.ext ?_))
      · show ((p : ℕ) * 2 + (l : ℕ) / 64 + Offsets.gy k - 6) / 2 * 2
          + (((p : ℕ) * 2 + (l : ℕ) / 64 + Offsets.gy k - 6) % 2 * 64 + ((l : ℕ) % 64 + Offsets.gx k - 6)) / 64
          = (p : ℕ) * 2 + (l : ℕ) / 64 + Offsets.gy k - 6
        have h2 := h.2
        generalize (p : ℕ) * 2 + (l : ℕ) / 64 + Offsets.gy k - 6 = a
        generalize (l : ℕ) % 64 = d at h2
        omega
      · show (((p : ℕ) * 2 + (l : ℕ) / 64 + Offsets.gy k - 6) % 2 * 64 + ((l : ℕ) % 64 + Offsets.gx k - 6)) % 64
          = (l : ℕ) % 64 + Offsets.gx k - 6
        have h2 := h.2
        generalize (p : ℕ) * 2 + (l : ℕ) / 64 + Offsets.gy k - 6 = a
        generalize (l : ℕ) % 64 = d at h2
        omega
    · rw [dif_neg h, dif_neg h, zero_mul]

/-- A packed table repeated over the channels. -/
theorem inv_block (v : FVec Ideal S64x64 .f32) (k : Fin 7) (p : Fin 32) (l : Fin 128) :
    (broadcastTo S7x32x128 (shapeCast S1x32x128
          (shapeCast S32x128 (shapeCast S32x128 v shapeCasts_S64x64_S32x128) shapeCasts_S32x128_S32x128)
          shapeCasts_S32x128_S1x32x128) broadcasts_S1x32x128_S7x32x128 : FVec Ideal S7x32x128 .f32) (ix3 k p l)
      = v (ix2 ⟨p * 2 + l / 64, by omega⟩ ⟨l % 64, by omega⟩) := by
  pointwise []

/-- What one grid point leaves at a place of its block is the packed result of that channel at that place. -/
theorem point (c : Dev nD) (hs : ∀ i j, sq2 (ent (argE m c)) (ent (argB m c)) i j ≠ ⊥) (t : Fin cfg0.N) (k : Fin 7)
    (p : Fin 32) (l : Fin 128) (hk : (t : ℕ) * 7 + k < 21) :
    mulf (accV (iblk m c 0 t) (gb2Of (gbOf (argE m c) (argB m c))) (geoOf (gbOf (argE m c) (argB m c)))
        (corrPackedOf (corrT (argE m c) (argB m c))))
      (broadcastTo S7x32x128 (shapeCast S1x32x128
          (shapeCast S32x128 (shapeCast S32x128 (invT (argE m c) (argB m c)) shapeCasts_S64x64_S32x128)
            shapeCasts_S32x128_S32x128)
          shapeCasts_S32x128_S1x32x128) broadcasts_S1x32x128_S7x32x128) (ix3 k p l)
      = packedV (argX m c) (argE m c) (argB m c) (ix3 ⟨t * 7 + k, hk⟩ p l) := by
  rw [packed_at]
  exact congrArg₂ (· * ·)
    (acc_pixel (argE m c) (argB m c) hs (fun y z => argX m c (ix4 0 ⟨t * 7 + k, hk⟩ y z)) (iblk m c 0 t) k
      (fun r l => blk0 m c t k r l hk) p l)
    (inv_block (invT (argE m c) (argB m c)) k p l)

/-- The result array after the run is the packed result. -/
theorem final (c : Dev nD) (hs : ∀ i j, sq2 (ent (argE m c)) (ent (argB m c)) i j ≠ ⊥) :
    (dats m 0 c).arrAt 5 (cfgs 0).N = packedV (argX m c) (argE m c) (argB m c) := by
  refine (dats m 0 c).arrAt_eq_of_covers 5 _ (by decide +kernel) fun t _ y => ?_
  blk_simp
  rw [after0_5, outsAt0, blk1, blk2, blk3, blk4, out_block]
  have ht : (t : ℕ) < 3 := t.isLt
  obtain ⟨k, p, l, rfl⟩ : ∃ (k : Fin 7) (p : Fin 32) (l : Fin 128), (y : S7x32x128.Idx) = ix3 k p l :=
    ⟨y 0, y 1, y 2, by funext a; fin_cases a <;> rfl⟩
  refine (point m c hs t k p l (by omega)).trans ?_
  blk_ext [idx t]

/-- The returned array is the packed result, unpacked to the image layout. -/
theorem tail (c : Dev nD) (hs : ∀ i j, sq2 (ent (argE m c)) (ent (argB m c)) i j ≠ ⊥) :
    Pipeline.afterTail₀ cfgs (dats m) 0 (V0 m) [hostOps1] c main_v114
    = shapeCast S1x21x64x64 (packedV (argX m c) (argE m c) (argB m c)) shapeCasts_S21x32x128_S1x21x64x64 := by
  rw [← final m c hs]
  unfold Pipeline.afterTail₀
  unfold_abbrev_sides
  simp only [List.flatten_cons, List.flatten_nil, List.append_nil, List.cons_append, List.nil_append]
  after_reads_simp
  exact congrArg (fun X => shapeCast S1x21x64x64 (X : FVec Ideal S21x32x128 .f32) shapeCasts_S21x32x128_S1x21x64x64)
    (Pipeline.withArrays_arr spec0 (by decide) c (V0 m c) (fun w => (dats m 0 c).arrAt w (cfgs 0).N) 5)

/-- Every run of the second kernel program ends with the unpacked result returned and its arguments unchanged. -/
theorem run (ρ : Dev nD → PrngReg) (hs : ∀ c i j, sq2 (ent (argE m c)) (ent (argB m c)) i j ≠ ⊥) :
    θ_run (defs (F := Ideal)) (onTc (τ := τ) (main (F := Ideal))) ⟨m, fun _ => 0, ρ⟩ fun r => ∀ c : Dev nD,
      r.2.mem ((c.tc : Thread nD τ).loc main_v114)
        = shapeCast S1x21x64x64 (packedV (argX m c) (argE m c) (argB m c)) shapeCasts_S21x32x128_S1x21x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h.1 c).2 main_v114 (Pipeline.mem_restRefs_of main_v114 (by decide) (by decide))).trans (tail m c (hs c)), h.2 c⟩)
    (θ_run_and (run_main m ρ) (unchanged m ρ))

end Cert.Kernel2Ideal.Array
end
-- ==== Proof.Dense2.lean ====
module

public import proofs.«01_k».proof.Proof.Gen.Reference2Ideal.Read
public import proofs.«01_k».proof.Proof.Entries2

/-! What the second reference computes: the dense weighted sum over all pixels, times the reciprocal norm. -/

@[expose] public section

set_option maxRecDepth 16384

noncomputable section

open Idealize.ShloMosaic Idealize.ShloMosaic.TcCoe Idealize.SL.Sem

namespace Cert.Reference2Ideal.Dense
open Cert.Reference2Ideal Cert.Reference2Ideal.Gen Cert.Reference2Ideal.Read Cert.Gauss
open Cert.Kernel2Ideal.Tables (ent)

/-- The first feature of a pixel is the coordinate of its column. -/
theorem feat_x (e : FVec Ideal S64 .f32) (n : Fin 4096) :
    val_main_v6 (F := Ideal) e (ix2 n 0) = ent e ⟨n % 64, by omega⟩ := by
  pointwise [val_main_v6, val_main_v5, val_main_v4, val_main_v3, val_main_v2, val_main_v1, val_main_v0]
  rfl

/-- The second feature of a pixel is the coordinate of its row. -/
theorem feat_y (e : FVec Ideal S64 .f32) (n : Fin 4096) :
    val_main_v6 (F := Ideal) e (ix2 n 1) = ent e ⟨n / 64, by omega⟩ := by
  pointwise [val_main_v6, val_main_v5, val_main_v4, val_main_v3, val_main_v2, val_main_v1, val_main_v0]
  rfl

/-- The first rounded feature of a pixel is the rounded coordinate of its column. -/
theorem round_x (b : FVec Ideal S64 .f32) (n : Fin 4096) :
    val_main_v13 (F := Ideal) b (ix2 n 0) = ent b ⟨n % 64, by omega⟩ := feat_x b n

/-- The second rounded feature of a pixel is the rounded coordinate of its row. -/
theorem round_y (b : FVec Ideal S64 .f32) (n : Fin 4096) :
    val_main_v13 (F := Ideal) b (ix2 n 1) = ent b ⟨n / 64, by omega⟩ := feat_y b n

/-- The rounded squared distance of two pixels is the sum of the two axes'. -/
theorem split (e b : Fin 64 → EReal) (hb : ∀ i, ∃ r : ℝ, b i = r) (y x y' x' : Fin 64) :
    (e x * e x + e y * e y) + (e x' * e x' + e y' * e y') - ((2 : ℝ) : EReal) * (b x * b x' + b y * b y')
      = sq2 e b y y' + sq2 e b x x' := by
  obtain ⟨p, hp⟩ := hb x
  obtain ⟨q, hq⟩ := hb x'
  obtain ⟨r, hr⟩ := hb y
  obtain ⟨s, hs⟩ := hb y'
  have h : -(((2 : ℝ) : EReal) * (b x * b x' + b y * b y'))
      = -(((2 : ℝ) : EReal) * (b y * b y')) + -(((2 : ℝ) : EReal) * (b x * b x')) := by
    rw [hp, hq, hr, hs]
    simp only [← EReal.coe_mul, ← EReal.coe_add, ← EReal.coe_neg]
    congr 1; ring
  unfold sq2
  rw [sub_eq_add_neg, sub_eq_add_neg, sub_eq_add_neg, h]
  ac_rfl

/-- The dense weight of two pixels. -/
theorem weight_at (e b : FVec Ideal S64 .f32) (hb : ∀ i, ∃ r : ℝ, ent b i = r) (n k : Fin 4096) :
    val_main_v32 (F := Ideal) e b (ix2 n k)
      = wt (max (sq2 (ent e) (ent b) ⟨n / 64, by omega⟩ ⟨k / 64, by omega⟩
          + sq2 (ent e) (ent b) ⟨n % 64, by omega⟩ ⟨k % 64, by omega⟩) 0) := by
  rw [← split (ent e) (ent b) hb]
  pointwise [val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_cst, val_main_cst_0, val_main_cst_1, val_main_cst_2]
  simp only [Fin.sum_univ_two, feat_x, feat_y, round_x, round_y, lit_two, lit_neg_half]
  rfl

/-- The weights the norm is summed over are the same weights. -/
theorem weight_norm (e b : FVec Ideal S64 .f32) : val_main_v51 (F := Ideal) e b = val_main_v32 e b := rfl

/-- The second reference's result at a pixel. -/
theorem out_at (x : FVec Ideal S1x21x64x64 .f32) (e b : FVec Ideal S64 .f32) (hb : ∀ i, ∃ r : ℝ, ent b i = r)
    (c : Fin 21) (i j : Fin 64) :
    val_main_v60 (F := Ideal) x e b (ix4 0 c i j)
      = (∑ n : Fin 4096, wt (max (sq2 (ent e) (ent b) i ⟨n / 64, by omega⟩ + sq2 (ent e) (ent b) j ⟨n % 64, by omega⟩) 0)
          * x (ix4 0 c ⟨n / 64, by omega⟩ ⟨n % 64, by omega⟩))
        * Ideal.div 1 ((∑ n : Fin 4096, wt (max (sq2 (ent e) (ent b) i ⟨n / 64, by omega⟩
            + sq2 (ent e) (ent b) j ⟨n % 64, by omega⟩) 0)) + Ideal.ofBits .f32 0x25800000#32) := by
  pointwise [val_main_v60, val_main_v59, val_main_v58, val_main_v57, val_main_v56, val_main_v55, val_main_v54,
    val_main_v53, val_main_v52, val_main_v34, val_main_v33, val_main_v15, val_main_v14, val_main_cst_3,
    val_main_cst_8, val_main_cst_9]
  simp only [weight_norm, weight_at _ _ hb, show ((i : ℕ) * 64 + j) / 64 = i by omega,
    show ((i : ℕ) * 64 + j) % 64 = j by omega, Fin.eta]

/-- A sum over the pixels of a function of row and column is a double sum. -/
theorem sum_rows (f : Fin 64 → Fin 64 → EReal) :
    ∑ n : Fin 4096, f ⟨n / 64, by omega⟩ ⟨n % 64, by omega⟩ = ∑ y, ∑ x, f y x := by
  rw [sum_pixels]
  refine Finset.sum_congr rfl fun a _ => Finset.sum_congr rfl fun b _ => ?_
  have hb := b.isLt
  exact congrArg₂ f (Fin.ext (show ((a : ℕ) * 64 + b) / 64 = a by omega)) (Fin.ext (show ((a : ℕ) * 64 + b) % 64 = b by omega))

end Cert.Reference2Ideal.Dense
end
-- ==== Proof.Nearby.lean ====
module

public import proofs.«01_k».proof.Proof.Gen.Pre_clamped_nearby
public import proofs.«01_k».proof.Proof.Entries2
public import Idealize.ShloMosaic.Lib.ReduceAll

/-! What the precondition of the second call says of the input, the coordinates and their rounded values. -/

@[expose] public section

set_option maxRecDepth 16384

noncomputable section

open Idealize.ShloMosaic Idealize.ShloMosaic.TcCoe Idealize.SL.Sem

namespace Cert.Pre_clamped_nearby.Meaning
open Cert.Pre_clamped_nearby Cert.Pre_clamped_nearby.Gen Cert.Gauss Cert.Kernel2Ideal.Offsets
open Cert.Kernel2Ideal.Tables (ent)

/-- Which entries of the input are of finite size. -/
def finV (x : FVec Ideal S1x21x64x64 .f32) : IVec S1x21x64x64 1 :=
  cmpf .olt (Host.absf x) (broadcastInDim S1x21x64x64 ![] bcast_S_S1x21x64x64 (constant S_ .f32 0x7F800000#32))

/-- How far apart two positions on an axis are. -/
def awayV : IVec S64x64 32 :=
  absi (subi
    (broadcastInDim S64x64 ![0, 1] bcast_S64x1_S64x64_0_1 (broadcastInDim S64x1 ![0] bcast_S64_S64x1_0 (iotaInDim S64 32 0)))
    (broadcastInDim S64x64 ![0, 1] bcast_S1x64_S64x64_0_1 (broadcastInDim S1x64 ![1] bcast_S64_S1x64_1 (iotaInDim S64 32 0))))

/-- Which pairs of pixels are at most the given numbers of rows and columns apart. -/
def withinV (a b : BitVec 32) : IVec S64x64x64x64 1 :=
  andi
    (broadcastInDim S64x64x64x64 ![0, 1, 2, 3] bcast_S64x64x1x1_S64x64x64x64_0_1_2_3
      (cmpi .sle (broadcastInDim S64x64x1x1 ![0, 1] bcast_S64x64_S64x64x1x1_0_1 awayV)
        (broadcastInDim S64x64x1x1 ![] bcast_S_S64x64x1x1 (constantI S_ 32 a))))
    (broadcastInDim S64x64x64x64 ![0, 1, 2, 3] bcast_S1x1x64x64_S64x64x64x64_0_1_2_3
      (cmpi .sle (broadcastInDim S1x1x64x64 ![2, 3] bcast_S64x64_S1x1x64x64_2_3 awayV)
        (broadcastInDim S1x1x64x64 ![] bcast_S_S1x1x64x64 (constantI S_ 32 b))))

/-- The rounded squared distances along one axis. -/
def axisV (e b : FVec Ideal S64 .f32) : FVec Ideal S64x64 .f32 :=
  subf
    (addf
      (broadcastInDim S64x64 ![0, 1] bcast_S64x1_S64x64_0_1
        (mulf (broadcastInDim S64x1 ![0] bcast_S64_S64x1_0 e) (broadcastInDim S64x1 ![0] bcast_S64_S64x1_0 e)))
      (broadcastInDim S64x64 ![0, 1] bcast_S1x64_S64x64_0_1
        (mulf (broadcastInDim S1x64 ![1] bcast_S64_S1x64_1 e) (broadcastInDim S1x64 ![1] bcast_S64_S1x64_1 e))))
    (mulf (broadcastInDim S64x64 ![] bcast_S_S64x64 (constant S_ .f32 0x40000000#32))
      (mulf (broadcastInDim S64x64 ![0, 1] bcast_S64x1_S64x64_0_1 (broadcastInDim S64x1 ![0] bcast_S64_S64x1_0 b))
        (broadcastInDim S64x64 ![0, 1] bcast_S1x64_S64x64_0_1 (broadcastInDim S1x64 ![1] bcast_S64_S1x64_1 b))))

/-- Which pairs of pixels have a rounded squared distance of at least zero. -/
def posV (e b : FVec Ideal S64 .f32) : IVec S64x64x64x64 1 :=
  cmpf .oge
    (addf
      (broadcastInDim S64x64x64x64 ![0, 1, 2, 3] bcast_S64x64x1x1_S64x64x64x64_0_1_2_3
        (broadcastInDim S64x64x1x1 ![0, 1] bcast_S64x64_S64x64x1x1_0_1 (axisV e b)))
      (broadcastInDim S64x64x64x64 ![0, 1, 2, 3] bcast_S1x1x64x64_S64x64x64x64_0_1_2_3
        (broadcastInDim S1x1x64x64 ![2, 3] bcast_S64x64_S1x1x64x64_2_3 (axisV e b))))
    (broadcastInDim S64x64x64x64 ![] bcast_S_S64x64x64x64 (constant S_ .f32 0x00000000#32))

/-- The precondition, taken apart. -/
theorem fn_eq (x : FVec Ideal S1x21x64x64 .f32) (e b : FVec Ideal S64 .f32) : fn (F := Ideal) x e b
    = andi (Host.reduce IntOp.andi (finV x) (constantI S_ 1 1#1) reducesTo_S1x21x64x64_S_d0_1_2_3 h_S_)
      (Host.reduce IntOp.andi
        (ori (ori (ori (withinV 5#32 5#32) (withinV 6#32 1#32)) (withinV 1#32 6#32)) (posV e b))
        (constantI S_ 1 1#1) reducesTo_S64x64x64x64_S_d0_1_2_3 h_S_) := rfl

/-- How far apart two positions are, as a signed number. -/
theorem away_int : ∀ a b : Fin 64, (IntOp.absi (BitVec.ofNat 32 a - BitVec.ofNat 32 b)).toInt = |(a : ℤ) - b| := by
  decide +kernel

theorem away_at (a b : Fin 64) : (awayV (ix2 a b)).toInt = |(a : ℤ) - b| := by
  rw [← away_int a b]
  pointwise [awayV]
  rfl

/-- Two pixels at most the given numbers of rows and columns apart. -/
theorem within_at (p q : BitVec 32) (y y' x x' : Fin 64) (h : withinV p q (ix4 y y' x x') = 1#1) :
    |(y : ℤ) - y'| ≤ p.toInt ∧ |(x : ℤ) - x'| ≤ q.toInt := by
  have e : withinV p q (ix4 y y' x x') = IntOp.andi (IntOp.cmpi .sle (awayV (ix2 y y')) p) (IntOp.cmpi .sle (awayV (ix2 x x')) q) := by
    pointwise [withinV]
  rw [e, IntOp.andi_eq_one, IntOp.cmpi_sle, IntOp.cmpi_sle, away_at, away_at] at h
  exact h

theorem axis_at (e b : FVec Ideal S64 .f32) (i j : Fin 64) : axisV e b (ix2 i j) = sq2 (ent e) (ent b) i j := by
  pointwise [axisV]
  rw [lit_two]
  rfl

/-- A pair of pixels with a rounded squared distance of at least zero. -/
theorem pos_at (e b : FVec Ideal S64 .f32) (y y' x x' : Fin 64) (h : posV e b (ix4 y y' x x') = 1#1) :
    0 ≤ sq2 (ent e) (ent b) y y' + sq2 (ent e) (ent b) x x' := by
  have e1 : posV e b (ix4 y y' x x')
      = BitVec.ofBool (decide ((0 : EReal) ≤ axisV e b (ix2 y y') + axisV e b (ix2 x x'))) := by
    pointwise [posV]
  rw [e1, axis_at, axis_at] at h
  by_contra hn
  rw [decide_eq_false hn] at h
  exact absurd h (by decide)

/-- Off the list the rounded squared distance is at least zero. -/
theorem off_list (x : FVec Ideal S1x21x64x64 .f32) (e b : FVec Ideal S64 .f32) (h : fn (F := Ideal) x e b = fun _ => 1#1)
    (i y j z : Fin 64) (hn : ¬ ∃ k, (i : ℕ) + gy k = y + 6 ∧ (j : ℕ) + gx k = z + 6) :
    0 ≤ sq2 (ent e) (ent b) i y + sq2 (ent e) (ent b) j z := by
  have h0 := congrFun (fn_eq x e b ▸ h) (Shape.Idx.first h_S_)
  have h1 := Host.reduce_andi_all _ _ _ _ _ (IntOp.andi_eq_one.mp h0).2 (ix4 i y j z)
  rcases IntOp.ori_eq_one.mp h1 with h2 | h2
  · exfalso
    have hl : Listed ((y : ℕ) + 6 - i) ((z : ℕ) + 6 - j) ∧ (i : ℕ) ≤ y + 6 ∧ (j : ℕ) ≤ z + 6 := by
      unfold Listed
      rcases IntOp.ori_eq_one.mp h2 with h3 | h3
      · rcases IntOp.ori_eq_one.mp h3 with h4 | h4
        · have h5 : |(i : ℤ) - y| ≤ 5 ∧ |(j : ℤ) - z| ≤ 5 := within_at _ _ i y j z h4
          rw [abs_le, abs_le] at h5
          omega
        · have h5 : |(i : ℤ) - y| ≤ 6 ∧ |(j : ℤ) - z| ≤ 1 := within_at _ _ i y j z h4
          rw [abs_le, abs_le] at h5
          omega
      · have h5 : |(i : ℤ) - y| ≤ 1 ∧ |(j : ℤ) - z| ≤ 6 := within_at _ _ i y j z h3
        rw [abs_le, abs_le] at h5
        omega
    obtain ⟨k, hk1, hk2⟩ := listed hl.1
    exact hn ⟨k, by omega, by omega⟩
  · exact pos_at e b i y j z h2

/-- The rounded coordinates are real numbers. -/
theorem rounded_real (x : FVec Ideal S1x21x64x64 .f32) (e b : FVec Ideal S64 .f32) (h : fn (F := Ideal) x e b = fun _ => 1#1)
    (i : Fin 64) : ∃ r : ℝ, ent b i = r := by
  have hp := off_list x e b h i i 0 63 (by
    rintro ⟨k, -, hk⟩
    have := gx_le k
    have h63 : ((63 : Fin 64) : ℕ) = 63 := rfl
    have h0 : ((0 : Fin 64) : ℕ) = 0 := rfl
    omega)
  have hb : sq2 (ent e) (ent b) i i ≠ ⊥ := by
    intro hb
    rw [hb, EReal.bot_add] at hp
    exact absurd hp (by simp)
  unfold sq2 at hb
  generalize ent b i = v at hb ⊢
  induction v with
  | coe r => exact ⟨r, rfl⟩
  | top =>
    refine absurd ?_ hb
    rw [EReal.top_mul_top, EReal.coe_mul_top_of_pos (by norm_num), EReal.sub_top]
  | bot =>
    refine absurd ?_ hb
    rw [EReal.bot_mul_bot, EReal.coe_mul_top_of_pos (by norm_num), EReal.sub_top]

/-- The entries of the input are real numbers. -/
theorem input_real (x : FVec Ideal S1x21x64x64 .f32) (e b : FVec Ideal S64 .f32) (h : fn (F := Ideal) x e b = fun _ => 1#1)
    (c : Fin 21) (y z : Fin 64) : ∃ r : ℝ, (x (ix4 0 c y z) : EReal) = r := by
  have h0 := congrFun (fn_eq x e b ▸ h) (Shape.Idx.first h_S_)
  have h1 := Host.reduce_andi_all _ _ _ _ _ (IntOp.andi_eq_one.mp h0).1 (ix4 0 c y z)
  have e1 : finV x (ix4 0 c y z) = BitVec.ofBool (decide (max (x (ix4 0 c y z)) (-x (ix4 0 c y z)) < (⊤ : EReal))) := by
    rw [← lit_inf]
    pointwise [finV]
    rfl
  rw [e1] at h1
  have h2 : max (x (ix4 0 c y z)) (-x (ix4 0 c y z)) < (⊤ : EReal) := by
    by_contra hn
    rw [decide_eq_false hn] at h1
    exact absurd h1 (by decide)
  have key (v : EReal) (hv : max v (-v) < ⊤) : ∃ r : ℝ, v = r := by
    induction v with
    | coe r => exact ⟨r, rfl⟩
    | top => exact absurd hv (by simp)
    | bot => exact absurd hv (by simp)
  exact key _ h2

end Cert.Pre_clamped_nearby.Meaning
end
-- ==== Proof.lean ====
/- The claims, assembled: for each of the two calls the frames, the correspondence of the two kernel programs, and the
value claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_clamped_nearby
public import proofs.«01_k».proof.Proof.Array
public import proofs.«01_k».proof.Proof.Dense
public import proofs.«01_k».proof.Proof.Array2
public import proofs.«01_k».proof.Proof.Dense2
public import proofs.«01_k».proof.Proof.Nearby
public import Idealize.ShloMosaic.Adequacy
public import Idealize.ShloMosaic.Init

@[expose] public section

noncomputable section

namespace Cert.Proof

open Idealize.ShloMosaic Idealize.SL.Sem Cert.Kernel

/-- The kernel's result, unpacked to the image layout, is the reference's result. -/
theorem value (x : FVec Ideal Cert.KernelIdeal.S1x21x64x64 .f32) :
    shapeCast Cert.KernelIdeal.S1x21x64x64 (Cert.KernelIdeal.Array.packedV x)
        Cert.KernelIdeal.Gen.shapeCasts_S21x32x128_S1x21x64x64
      = Cert.ReferenceIdeal.Read.val_main_v57 (F := Ideal) x := by
  funext i
  obtain ⟨c, a, b, rfl⟩ : ∃ (c : Fin 21) (a b : Fin 64), (i : Cert.KernelIdeal.S1x21x64x64.Idx) = ix4 0 c a b :=
    ⟨i 1, i 2, i 3, by funext k; fin_cases k <;> first | rfl | exact Subsingleton.elim (α := Fin 1) _ _⟩
  refine Eq.trans ?_ (Cert.ReferenceIdeal.Dense.out_at x c a b).symm
  rw [← Cert.Gauss.twoPass_eq_dense (fun a b => x (ix4 0 c a b)), ← Cert.Gauss.norm_eq,
    ← Cert.KernelIdeal.Tables.inv_at]
  pointwise []
  refine (Cert.KernelIdeal.Array.packed_at x c ⟨a / 2, by omega⟩ ⟨a % 2 * 64 + b, by omega⟩).trans ?_
  simp only [show (a : ℕ) / 2 * 2 + (a % 2 * 64 + b) / 64 = a by omega, show ((a : ℕ) % 2 * 64 + b) % 64 = b by omega,
    Fin.eta]

/-- The reference's run leaves its arguments unchanged and every counter at zero. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- The kernel and the reference, from memories that agree on the arguments, end with equal results. -/
theorem equal_results : Cert.algebraic_KernelIdeal_ReferenceIdeal (hKernelIdeal := Cert.KernelIdeal.Gen.facts)
    (hReferenceIdeal := Cert.ReferenceIdeal.Gen.facts) := by
  intro m g m' g' _ agree
  refine ⟨fun c => shapeCast Cert.KernelIdeal.S1x21x64x64
      (Cert.KernelIdeal.Array.packedV (m (c.tc.loc Cert.KernelIdeal.main_arg0)))
      Cert.KernelIdeal.Gen.shapeCasts_S21x32x128_S1x21x64x64, Cert.KernelIdeal.Array.run m g, ?_⟩
  refine (θ_run Cert.ReferenceIdeal.defs _ _).mono (fun r h c => ⟨(h c).1.trans ?_, (h c).2⟩)
    (Cert.ReferenceIdeal.Value.run (F := Ideal) m' g')
  rw [Cert.ReferenceIdeal.Read.val_main_v57_eq, (agree c).1]
  exact (value _).symm

open Cert.Gauss Cert.Kernel2Ideal.Tables Cert.Pre_clamped_nearby.Meaning in
/-- The norm the second reference sums is the second kernel's. -/
theorem norm2 (x : FVec Ideal Cert.KernelIdeal.S1x21x64x64 .f32) (e b : FVec Ideal Cert.Kernel2Ideal.S64 .f32)
    (h : Cert.Pre_clamped_nearby.fn (F := Ideal) x e b = fun _ => 1#1) (i j : Fin 64) :
    ∑ y, ∑ z, wt (max (sq2 (ent e) (ent b) i y + sq2 (ent e) (ent b) j z) 0)
      = (∑ a, wt (sq2 (ent e) (ent b) i a)) * (∑ a, wt (sq2 (ent e) (ent b) j a))
        + ∑ k, corrT e b (ix3 k i j) := by
  have hs := sq2_ne_bot (ent e) (ent b) (rounded_real x e b h)
  have hd := dense_eq (sq2 (ent e) (ent b)) hs (sq2_comm _ _) (off_list x e b h) (fun _ _ => 1) i j
  rw [twoPass_one _ hs (sq2_comm _ _)] at hd
  simp only [EReal.coe_one, mul_one] at hd
  refine hd.trans (congrArg₂ (· + ·) rfl (Finset.sum_congr rfl fun k _ => ?_))
  rw [corrT_at e b hs]
  unfold nbrTerm
  simp only [mul_one]

open Cert.Gauss Cert.Kernel2Ideal.Tables Cert.Pre_clamped_nearby.Meaning in
/-- The second kernel's result, unpacked to the image layout, is the second reference's result. -/
theorem value2 (x : FVec Ideal Cert.KernelIdeal.S1x21x64x64 .f32) (e b : FVec Ideal Cert.Kernel2Ideal.S64 .f32)
    (h : Cert.Pre_clamped_nearby.fn (F := Ideal) x e b = fun _ => 1#1) :
    shapeCast Cert.Kernel2Ideal.S1x21x64x64 (Cert.Kernel2Ideal.Array.packedV x e b)
        Cert.Kernel2Ideal.Gen.shapeCasts_S21x32x128_S1x21x64x64
      = Cert.Reference2Ideal.Read.val_main_v60 (F := Ideal) x e b := by
  funext i
  obtain ⟨c, a, d, rfl⟩ : ∃ (c : Fin 21) (a d : Fin 64), (i : Cert.Kernel2Ideal.S1x21x64x64.Idx) = ix4 0 c a d :=
    ⟨i 1, i 2, i 3, by funext k; fin_cases k <;> first | rfl | exact Subsingleton.elim (α := Fin 1) _ _⟩
  have hb := rounded_real x e b h
  have hs := sq2_ne_bot (ent e) (ent b) hb
  refine Eq.trans ?_ (Cert.Reference2Ideal.Dense.out_at x e b hb c a d).symm
  choose R hR using fun y z => input_real x e b h c y z
  rw [Cert.Reference2Ideal.Dense.sum_rows (fun y z => wt (max (sq2 (ent e) (ent b) a y + sq2 (ent e) (ent b) d z) 0)
      * x (ix4 0 c y z)),
    Cert.Reference2Ideal.Dense.sum_rows (fun y z => wt (max (sq2 (ent e) (ent b) a y + sq2 (ent e) (ent b) d z) 0)),
    norm2 x e b h a d, ← invT_at]
  simp only [hR]
  rw [dense_eq _ hs (sq2_comm _ _) (off_list x e b h) R a d]
  pointwise []
  refine (Cert.Kernel2Ideal.Array.packed_at x e b c ⟨a / 2, by omega⟩ ⟨a % 2 * 64 + d, by omega⟩).trans ?_
  simp only [show (a : ℕ) / 2 * 2 + (a % 2 * 64 + d) / 64 = a by omega, show ((a : ℕ) % 2 * 64 + d) % 64 = d by omega,
    Fin.eta, Cert.Kernel2Ideal.Array.pixel, hR]

/-- The second reference's run leaves its arguments unchanged and every counter at zero. -/
theorem frame_reference2 : Cert.quiescent_Reference2Ideal (hReference2Ideal := Cert.Reference2Ideal.Gen.facts) := by
  intro m ρ _
  exact (θ_run Cert.Reference2Ideal.defs _ _).mono
    (fun r h => ⟨fun c => (h c).2, sem_eq_zero_of_no_sems (by decide) r.2⟩)
    (Cert.Reference2Ideal.Value.run (F := Ideal) m ρ)

/-- The second kernel and the second reference, from memories that agree on the arguments, end with equal results. -/
theorem equal_results2 : Cert.algebraic_Kernel2Ideal_Reference2Ideal_pre_clamped_nearby
    (hKernel2Ideal := Cert.Kernel2Ideal.Gen.facts) (hReference2Ideal := Cert.Reference2Ideal.Gen.facts)
    (hPre_clamped_nearby := Cert.Pre_clamped_nearby.Gen.facts) := by
  intro m g m' g' pre agree
  have hs (c : Dev Cert.Kernel2Ideal.nD) := Cert.Gauss.sq2_ne_bot
    (Cert.Kernel2Ideal.Tables.ent (Cert.Kernel2Ideal.Array.argE m c))
    (Cert.Kernel2Ideal.Tables.ent (Cert.Kernel2Ideal.Array.argB m c))
    (Cert.Pre_clamped_nearby.Meaning.rounded_real _ _ _ (pre c))
  refine ⟨fun c => shapeCast Cert.Kernel2Ideal.S1x21x64x64
      (Cert.Kernel2Ideal.Array.packedV (Cert.Kernel2Ideal.Array.argX m c) (Cert.Kernel2Ideal.Array.argE m c)
        (Cert.Kernel2Ideal.Array.argB m c))
      Cert.Kernel2Ideal.Gen.shapeCasts_S21x32x128_S1x21x64x64, Cert.Kernel2Ideal.Array.run m g hs, ?_⟩
  refine (θ_run Cert.Reference2Ideal.defs _ _).mono (fun r h c => ⟨(h c).1.trans ?_, (h c).2⟩)
    (Cert.Reference2Ideal.Value.run (F := Ideal) m' g')
  rw [Cert.Reference2Ideal.Read.val_main_v60_eq, (agree c).1, (agree c).2.1, (agree c).2.2]
  exact (value2 _ _ _ (pre c)).symm

/-- All the claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_clamped_nearby.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ,
    fun m ρ _ => Cert.Kernel2Ideal.Gen.frame m ρ, frame_reference2, fun m ρ _ => frame_reference2 m ρ trivial,
    trivial, equal_results, trivial, equal_results2⟩

end Cert.Proof

end
